-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)) (v3 : (c : Dev Cert.Kernel2Ideal.nD) → Buf (Elt Ideal) ((c.tc : Thread Cert.Kernel2Ideal.nD Cert.Kernel2Ideal.τ).loc Cert.Kernel2Ideal.main_v31_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_v31_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v65) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S32768x8192 : Shape := ⟨2, ![32768, 8192]⟩
abbrev S32x16 : Shape := ⟨2, ![32, 16]⟩
abbrev S1x64 : Shape := ⟨2, ![1, 64]⟩
abbrev S1x128 : Shape := ⟨2, ![1, 128]⟩
abbrev S32768x3072 : Shape := ⟨2, ![32768, 3072]⟩
abbrev S_ : Shape := ⟨0, ![]⟩
abbrev S32x8 : Shape := ⟨2, ![32, 8]⟩

class Facts : Prop where
  slices_S32768x8192_S32768x3072_0_0 : S32768x8192.Slices ![0, 0] S32768x3072
  bitsLt_bf16_f32 : FTy.bits .bf16 < FTy.bits .f32
  bcast_S_S32768x3072 : S_.BroadcastsInDim S32768x3072 (![] : Fin 0 → Fin S32768x3072.rank)
  reducesTo_S32768x3072_S_d0_1 : S32768x3072.ReducesTo [0, 1] S_
  h_S_ : 0 < S_.numel
  slices_S32x16_S32x8_0_0 : S32x16.Slices ![0, 0] S32x8
  bcast_S_S32x8 : S_.BroadcastsInDim S32x8 (![] : Fin 0 → Fin S32x8.rank)
  reducesTo_S32x8_S_d0_1 : S32x8.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_v16 : IVec S_ 1) (main_v17 : FVec F S1x64 .f32) : IVec S_ 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_c_5 : IVec S_ 1 := constantI S_ 1 1#1
  let main_v20 : IVec S_ 1 := (fun x v => Host.reduce IntOp.andi x v reducesTo_S1x64_S_d0_1 h_S_) main_v19 main_c_5
  let main_v21 : IVec S_ 1 := andi main_v16 main_v20
  let main_v22 : FVec F S1x64 .f32 := Host.absf main_arg4
  let main_cst_6 : FVec F S_ .f32 := constant S_ .f32 0x7F800000#32
  let main_v23 : FVec F S1x64 .f32 := broadcastInDim S1x64 ![] bcast_S_S1x64 main_cst_6
  let main_v24 : IVec S1x64 1 := cmpf .olt main_v22 main_v23
  let main_c_7 : IVec S_ 1 := constantI S_ 1 1#1
  let main_v25 : IVec S_ 1 := (fun x v => Host.reduce IntOp.andi x v reducesTo_S1x64_S_d0_1 h_S_) main_v24 main_c_7
  let main_v26 : IVec S_ 1 := andi main_v21 main_v25
  let main_v27 : FVec F S1x64 .f32 := Host.absf main_arg5
  let main_cst_8 : FVec F S_ .f32 := constant S_ .f32 0x7F800000#32
  let main_v28 : FVec F S1x64 .f32 := broadcastInDim S1x64 ![] bcast_S_S1x64 main_cst_8
  let main_v29 : IVec S1x64 1 := cmpf .olt main_v27 main_v28
  let main_c_9 : IVec S_ 1 := constantI S_ 1 1#1
  let main_v30 : IVec S_ 1 := (fun x v => Host.reduce IntOp.andi x v reducesTo_S1x64_S_d0_1 h_S_) main_v29 main_c_9
  let main_v31 : IVec S_ 1 := andi main_v26 main_v30
  main_v31

def fn {F : FTy → Type} [FloatOps F] (main_arg0 : FVec F S32768x8192 .bf16) (main_arg1 : FVec F S32x16 .f32) (main_arg2 : FVec F S1x64 .f32) (main_arg3 : FVec F S1x64 .f32) (main_arg4 : FVec F S1x64 .f32) (main_arg5 : FVec F S1x64 .f32) (main_arg6 : FVec F S1x128 .f32) : IVec S_ 1 :=
  let main_v0 : FVec F S32768x3072 .bf16 := (extractStridedSlice S32768x3072 ![0, 0] · slices_S32768x8192_S32768x3072_0_0) main_arg0
  let main_v1 : FVec F S32768x3072 .f32 := (extf .f32 · bitsLt_bf16_f32) main_v0
  let main_v2 : FVec F S32768x3072 .f32 := Host.absf main_v1
  let main_cst : FVec F S_ .f32 := constant S_ .f32 0x7F800000#32
  let main_v3 : FVec F S32768x3072 .f32 := broadcastInDim S32768x3072 ![] bcast_S_S32768x3072 main_cst
  let main_v4 : IVec S32768x3072 1 := cmpf .olt main_v2 main_v3
  let main_c : IVec S_ 1 := constantI S_ 1 1#1
  let main_v5 : IVec S_ 1 := (fun x v => Host.reduce IntOp.andi x v reducesTo_S32768x3072_S_d0_1 h_S_) main_v4 main_c
  let main_v6 : FVec F S32x8 .f32 := (extractStridedSlice S32x8 ![0, 0] · slices_S32x16_S32x8_0_0) main_arg1
  let main_v7 : FVec F S32x8 .f32 := Host.absf main_v6
  let main_cst_0 : FVec F S_ .f32 := constant S_ .f32 0x7F800000#32
  let main_v8 : FVec F S32x8 .f32 := broadcastInDim S32x8 ![] bcast_S_S32x8 main_cst_0
  let main_v9 : IVec S32x8 1 := cmpf .olt main_v7 main_v8
  let main_c_1 : IVec S_ 1 := constantI S_ 1 1#1
  let main_v10 : IVec S_ 1 := (fun x v => Host.reduce IntOp.andi x v reducesTo_S32x8_S_d0_1 h_S_) main_v9 main_c_1
  let main_v11 : IVec S_ 1 := andi main_v5 main_v10
  let main_v12 : FVec F S1x64 .f32 := Host.absf main_arg2
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  let main_c_3 : IVec S_ 1 := constantI S_ 1 1#1
  let main_v15 : IVec S_ 1 := (fun x v => Host.reduce IntOp.andi x v reducesTo_S1x64_S_d0_1 h_S_) main_v14 main_c_3
  let main_v16 : IVec S_ 1 := andi main_v11 main_v15
  let main_v17 : FVec F S1x64 .f32 := Host.absf main_arg3
  fn_part1 (F := F) main_arg4 main_arg5 main_v16 main_v17
-- ==== Kernel.lean ====
abbrev S32768x8192 : Shape := ⟨2, ![32768, 8192]⟩
abbrev S32x16 : Shape := ⟨2, ![32, 16]⟩
abbrev S1x64 : Shape := ⟨2, ![1, 64]⟩
abbrev S1x128 : Shape := ⟨2, ![1, 128]⟩
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S1x256x256 : Shape := ⟨3, ![1, 256, 256]⟩
abbrev S3x256x256 : Shape := ⟨3, ![3, 256, 256]⟩
abbrev S3x256x256x1 : Shape := ⟨4, ![3, 256, 256, 1]⟩
abbrev S3x256x256x8 : Shape := ⟨4, ![3, 256, 256, 8]⟩
abbrev S8x3x256x256 : Shape := ⟨4, ![8, 3, 256, 256]⟩
abbrev S1x3x256x256 : Shape := ⟨4, ![1, 3, 256, 256]⟩
abbrev S64 : Shape := ⟨1, ![64]⟩
abbrev S128 : Shape := ⟨1, ![128]⟩
abbrev S32768x1024 : Shape := ⟨2, ![32768, 1024]⟩
abbrev S2048x128 : Shape := ⟨2, ![2048, 128]⟩
abbrev S512x128 : Shape := ⟨2, ![512, 128]⟩
abbrev S2x256x1 : Shape := ⟨3, ![2, 256, 1]⟩
abbrev S2x256x128 : Shape := ⟨3, ![2, 256, 128]⟩
abbrev S1 : Shape := ⟨1, ![1]⟩
abbrev S1x1 : Shape := ⟨2, ![1, 1]⟩
abbrev S256x128 : Shape := ⟨2, ![256, 128]⟩
abbrev S1x1x256x256 : Shape := ⟨4, ![1, 1, 256, 256]⟩
abbrev S512x256 : Shape := ⟨2, ![512, 256]⟩
abbrev S1x256x1 : Shape := ⟨3, ![1, 256, 1]⟩
abbrev S1x256x128 : Shape := ⟨3, ![1, 256, 128]⟩

abbrev nBuf : Space → Nat
  | .hbm => 92
  | .vmem => 21
  | .smem => 0
  | _ => 0

abbrev bufTy : (tb : Table) → Fin (tcTables nBuf tb) → BufTy
  | .hbm, ⟨0, _⟩ => ⟨S32768x8192, .bf16⟩
  | .hbm, ⟨1, _⟩ => ⟨S32x16, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S32x8, .f32⟩
  | .hbm, ⟨8, _⟩ => ⟨S256, .i32⟩
  | .hbm, ⟨9, _⟩ => ⟨S256x1, .i32⟩
  | .hbm, ⟨10, _⟩ => ⟨S256, .i32⟩
  | .hbm, ⟨11, _⟩ => ⟨S1x256, .i32⟩
  | .hbm, ⟨12, _⟩ => ⟨S_, .i32⟩
  | .hbm, ⟨13, _⟩ => ⟨S256x1, .i32⟩
  | .hbm, ⟨14, _⟩ => ⟨S256x1, .i32⟩
  | .hbm, ⟨15, _⟩ => ⟨S256x256, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x1, .i32⟩
  | .hbm, ⟨20, _⟩ => ⟨S256x1, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S1x256x256, .i32⟩
  | .hbm, ⟨31, _⟩ => ⟨S1x256x256, .i32⟩
  | .hbm, ⟨32, _⟩ => ⟨S1x256x256, .i32⟩
  | .hbm, ⟨33, _⟩ => ⟨S3x256x256, .i32⟩
  | .hbm, ⟨34, _⟩ => ⟨S_, .i32⟩
  | .hbm, ⟨35, _⟩ => ⟨S3x256x256, .i32⟩
  | .hbm, ⟨36, _⟩ => ⟨S3x256x256, .i32⟩
  | .hbm, ⟨37, _⟩ => ⟨S_, .i32⟩
  | .hbm, ⟨38, _⟩ => ⟨S3x256x256, .i32⟩
  | .hbm, ⟨39, _⟩ => ⟨S3x256x256, .i32⟩
  | .hbm, ⟨40, _⟩ => ⟨S3x256x256, .f32⟩
  | .hbm, ⟨41, _⟩ => ⟨S_, .f32⟩
  | .hbm, ⟨42, _⟩ => ⟨S3x256x256, .f32⟩
  | .hbm, ⟨43, _⟩ => ⟨S3x256x256, .f32⟩
  | .hbm, ⟨44, _⟩ => ⟨S3x256x256, .f32⟩
  | .hbm, ⟨45, _⟩ => ⟨S_, .f32⟩
  | .hbm, ⟨46, _⟩ => ⟨S3x256x256, .f32⟩
  | .hbm, ⟨47, _⟩ => ⟨S3x256x256, .f32⟩
  | .hbm, ⟨48, _⟩ => ⟨S_, .f32⟩
  | .hbm, ⟨49, _⟩ => ⟨S3x256x256, .f32⟩
  | .hbm, ⟨50, _⟩ => ⟨S3x256x256, .f32⟩
  | .hbm, ⟨51, _⟩ => ⟨S3x256x256, .i32⟩
  | .hbm, ⟨52, _⟩ => ⟨S_, .i32⟩
  | .hbm, ⟨53, _⟩ => ⟨S3x256x256, .i32⟩
  | .hbm, ⟨54, _⟩ => ⟨S3x256x256, .i32⟩
  | .hbm, ⟨55, _⟩ => ⟨S_, .i32⟩
  | .hbm, ⟨56, _⟩ => ⟨S3x256x256, .i32⟩
  | .hbm, ⟨57, _⟩ => ⟨S3x256x256, .i32⟩
  | .hbm, ⟨58, _⟩ => ⟨S_, .i32⟩
  | .hbm, ⟨59, _⟩ => ⟨S3x256x256, .i32⟩
  | .hbm, ⟨60, _⟩ => ⟨S3x256x256, .i1⟩
  | .hbm, ⟨61, _⟩ => ⟨S3x256x256, .i32⟩
  | .hbm, ⟨62, _⟩ => ⟨S_, .i32⟩
  | .hbm, ⟨63, _⟩ => ⟨S3x256x256, .i32⟩
  | .hbm, ⟨64, _⟩ => ⟨S3x256x256, .i1⟩
  | .hbm, ⟨65, _⟩ => ⟨S_, .i32⟩
  | .hbm, ⟨66, _⟩ => ⟨S3x256x256, .i32⟩
  | .hbm, ⟨67, _⟩ => ⟨S3x256x256, .i32⟩
  | .hbm, ⟨68, _⟩ => ⟨S3x256x256, .i32⟩
  | .hbm, ⟨69, _⟩ => ⟨S3x256x256x1, .i32⟩
  | .hbm, ⟨70, _⟩ => ⟨S3x256x256x8, .f32⟩
  | .hbm, ⟨71, _⟩ => ⟨S8x3x256x256, .f32⟩
  | .hbm, ⟨72, _⟩ => ⟨S1x3x256x256, .i32⟩
  | .hbm, ⟨73, _⟩ => ⟨S_, .i32⟩
  | .hbm, ⟨74, _⟩ => ⟨S1x3x256x256, .i32⟩
  | .hbm, ⟨75, _⟩ => ⟨S1x3x256x256, .i1⟩
  | .hbm, ⟨76, _⟩ => ⟨S_, .f32⟩
  | .hbm, ⟨77, _⟩ => ⟨S_, .f32⟩
  | .hbm, ⟨78, _⟩ => ⟨S8x3x256x256, .i1⟩
  | .hbm, ⟨79, _⟩ => ⟨S8x3x256x256, .f32⟩
  | .hbm, ⟨80, _⟩ => ⟨S8x3x256x256, .f32⟩
  | .hbm, ⟨81, _⟩ => ⟨S64, .f32⟩
  | .hbm, ⟨82, _⟩ => ⟨S1x64, .f32⟩
  | .hbm, ⟨83, _⟩ => ⟨S64, .f32⟩
  | .hbm, ⟨84, _⟩ => ⟨S1x64, .f32⟩
  | .hbm, ⟨85, _⟩ => ⟨S64, .f32⟩
  | .hbm, ⟨86, _⟩ => ⟨S1x64, .f32⟩
  | .hbm, ⟨87, _⟩ => ⟨S64, .f32⟩
  | .hbm, ⟨88, _⟩ => ⟨S1x64, .f32⟩
  | .hbm, ⟨89, _⟩ => ⟨S128, .f32⟩
  | .hbm, ⟨90, _⟩ => ⟨S1x128, .f32⟩
  | .hbm, ⟨91, _⟩ => ⟨S32768x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x3x256x256, .f32⟩
  | .local _ .vmem, ⟨9, _⟩ => ⟨S1x3x256x256, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x128, .f32⟩
  | .local _ .vmem, ⟨15, _⟩ => ⟨S2048x128, .bf16⟩
  | .local _ .vmem, ⟨16, _⟩ => ⟨S2048x128, .bf16⟩
  | .local _ .vmem, ⟨17, _⟩ => ⟨S512x128, .bf16⟩
  | .local _ .vmem, ⟨18, _⟩ => ⟨S2x256x1, .f32⟩
  | .local _ .vmem, ⟨19, _⟩ => ⟨S2x256x1, .f32⟩
  | .local _ .vmem, ⟨20, _⟩ => ⟨S2x256x128, .f32⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c8_i32 : BitVec 32 := 8#32
  let v21 : BitVec 32 := Scalar.addi c0_i32 c8_i32
  let c1_i32 : BitVec 32 := 1#32
  ⟨c0_i32, v21, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v22 : BitVec 32 := Scalar.muli arg17 c256_i32
  v22
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v22 : BitVec 32 := Scalar.muli arg17 c256_i32
  let v23 : BitVec 32 := v22
  let v24 : Index := Scalar.indexCast v23
  let c0_11 : Index := 0#32
  ![v24.toNat, 0]
@[reducible] def k0_t2_loop (k0_t1 : Fin k0_t1_loop.trips) : Scf.Loop 32 :=
  let c0_i32_31 : BitVec 32 := 0#32
  let c0_i32 : BitVec 32 := 0#32
  let c1_i32 : BitVec 32 := 1#32
  let arg17 : BitVec 32 := Scf.iv c0_i32 c1_i32 k0_t1
  let c1_i32_29 : BitVec 32 := 1#32
  let v52 : BitVec 32 := Scalar.addi arg17 c1_i32_29
  let v53 : BitVec 32 := Scalar.subi v52 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let c1_i32_33 : BitVec 32 := 1#32
  ⟨c0_i32_31, v57, c1_i32_33⟩
def k0_mult2 (k0_t1 : Fin k0_t1_loop.trips) (k0_t2 : Fin (k0_t2_loop k0_t1).trips) : BitVec 32 :=
  let c0_i32_31 : BitVec 32 := 0#32
  let c1_i32_33 : BitVec 32 := 1#32
  let arg18 : BitVec 32 := Scf.iv c0_i32_31 c1_i32_33 k0_t2
  let c256_i32_56 : BitVec 32 := 256#32
  let v102 : BitVec 32 := Scalar.muli arg18 c256_i32_56
  v102
def k0_off2 (k0_t1 : Fin k0_t1_loop.trips) (k0_t2 : Fin (k0_t2_loop k0_t1).trips) : Fin 2 → Nat :=
  let c0_i32_31 : BitVec 32 := 0#32
  let c1_i32_33 : BitVec 32 := 1#32
  let arg18 : BitVec 32 := Scf.iv c0_i32_31 c1_i32_33 k0_t2
  let c256_i32_56 : BitVec 32 := 256#32
  let v102 : BitVec 32 := Scalar.muli arg18 c256_i32_56
  let v103 : BitVec 32 := v102
  let v104 : Index := Scalar.indexCast v103
  let c0_57 : Index := 0#32
  ![v104.toNat, 0]
def k0_off3 (k0_t1 : Fin k0_t1_loop.trips) (k0_t2 : Fin (k0_t2_loop k0_t1).trips) : Fin 4 → Nat :=
  let c0_59 : Index := 0#32
  let c0_i32 : BitVec 32 := 0#32
  let c1_i32 : BitVec 32 := 1#32
  let arg17 : BitVec 32 := Scf.iv c0_i32 c1_i32 k0_t1
  let c0_i32_31 : BitVec 32 := 0#32
  let c1_i32_33 : BitVec 32 := 1#32
  let arg18 : BitVec 32 := Scf.iv c0_i32_31 c1_i32_33 k0_t2
  let v108 : BitVec 32 := Scalar.subi arg17 arg18
  let c2_i32 : BitVec 32 := 2#32
  let v109 : BitVec 32 := Scalar.minsi v108 c2_i32
  let v110 : Index := Scalar.indexCast v109
  let c0_60 : Index := 0#32
  let c0_61 : Index := 0#32
  ![0, v110.toNat, 0, 0]
@[reducible] def k0_t3_loop (k0_t1 : Fin k0_t1_loop.trips) : Scf.Loop 32 :=
  let c0_i32_31 : BitVec 32 := 0#32
  let c0_i32 : BitVec 32 := 0#32
  let c1_i32 : BitVec 32 := 1#32
  let arg17 : BitVec 32 := Scf.iv c0_i32 c1_i32 k0_t1
  let c1_i32_29 : BitVec 32 := 1#32
  let v52 : BitVec 32 := Scalar.addi arg17 c1_i32_29
  let v53 : BitVec 32 := Scalar.subi v52 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let v54 : BitVec 32 := Scalar.addi c0_i32_31 v53
  let c1_i32_34 : BitVec 32 := 1#32
  ⟨v57, v54, c1_i32_34⟩
def k0_mult3 (k0_t1 : Fin k0_t1_loop.trips) (k0_t3 : Fin (k0_t3_loop k0_t1).trips) : BitVec 32 :=
  let c0_i32_31 : BitVec 32 := 0#32
  let c0_i32 : BitVec 32 := 0#32
  let c1_i32 : BitVec 32 := 1#32
  let arg17 : BitVec 32 := Scf.iv c0_i32 c1_i32 k0_t1
  let c1_i32_29 : BitVec 32 := 1#32
  let v52 : BitVec 32 := Scalar.addi arg17 c1_i32_29
  let v53 : BitVec 32 := Scalar.subi v52 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let c1_i32_34 : BitVec 32 := 1#32
  let arg18 : BitVec 32 := Scf.iv v57 c1_i32_34 k0_t3
  let c256_i32_56 : BitVec 32 := 256#32
  let v102 : BitVec 32 := Scalar.muli arg18 c256_i32_56
  v102
def k0_off4 (k0_t1 : Fin k0_t1_loop.trips) (k0_t3 : Fin (k0_t3_loop k0_t1).trips) : Fin 2 → Nat :=
  let c0_i32_31 : BitVec 32 := 0#32
  let c0_i32 : BitVec 32 := 0#32
  let c1_i32 : BitVec 32 := 1#32
  let arg17 : BitVec 32 := Scf.iv c0_i32 c1_i32 k0_t1
  let c1_i32_29 : BitVec 32 := 1#32
  let v52 : BitVec 32 := Scalar.addi arg17 c1_i32_29
  let v53 : BitVec 32 := Scalar.subi v52 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let c1_i32_34 : BitVec 32 := 1#32
  let arg18 : BitVec 32 := Scf.iv v57 c1_i32_34 k0_t3
  let c256_i32_56 : BitVec 32 := 256#32
  let v102 : BitVec 32 := Scalar.muli arg18 c256_i32_56
  let v103 : BitVec 32 := v102
  let v104 : Index := Scalar.indexCast v103
  let c0_57 : Index := 0#32
  ![v104.toNat, 0]
def k0_off5 (k0_t1 : Fin k0_t1_loop.trips) (k0_t3 : Fin (k0_t3_loop k0_t1).trips) : Fin 4 → Nat :=
  let c0_59 : Index := 0#32
  let c0_i32 : BitVec 32 := 0#32
  let c1_i32 : BitVec 32 := 1#32
  let arg17 : BitVec 32 := Scf.iv c0_i32 c1_i32 k0_t1
  let c0_i32_31 : BitVec 32 := 0#32
  let c1_i32_29 : BitVec 32 := 1#32
  let v52 : BitVec 32 := Scalar.addi arg17 c1_i32_29
  let v53 : BitVec 32 := Scalar.subi v52 c0_i32_31
  let c1_i32_32 : BitVec 32 := 1#32
  let v55 : BitVec 32 := Scalar.divsi v53 c1_i32_32
  let v56 : BitVec 32 := Scalar.muli v55 c1_i32_32
  let v57 : BitVec 32 := Scalar.addi c0_i32_31 v56
  let c1_i32_34 : BitVec 32 := 1#32
  let arg18 : BitVec 32 := Scf.iv v57 c1_i32_34 k0_t3
  let v108 : BitVec 32 := Scalar.subi arg17 arg18
  let c2_i32 : BitVec 32 := 2#32
  let v109 : BitVec 32 := Scalar.minsi v108 c2_i32
  let v110 : Index := Scalar.indexCast v109
  let c0_60 : Index := 0#32
  let c0_61 : Index := 0#32
  ![0, v110.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S32768x8192 : Shape := ⟨2, ![32768, 8192]⟩
abbrev S32x16 : Shape := ⟨2, ![32, 16]⟩
abbrev S1x64 : Shape := ⟨2, ![1, 64]⟩
abbrev S1x128 : Shape := ⟨2, ![1, 128]⟩
abbrev S32768x1024 : Shape := ⟨2, ![32768, 1024]⟩
abbrev S16x2048x8x2x64 : Shape := ⟨5, ![16, 2048, 8, 2, 64]⟩
abbrev S16x2048x8x128 : Shape := ⟨4, ![16, 2048, 8, 128]⟩
abbrev S32x8 : Shape := ⟨2, ![32, 8]⟩
abbrev S64 : Shape := ⟨1, ![64]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S16x2x8x2048x2048 : Shape := ⟨5, ![16, 2, 8, 2048, 2048]⟩
abbrev S1x1x8x2048x2048 : Shape := ⟨5, ![1, 1, 8, 2048, 2048]⟩
abbrev S16x2x8x2048 : Shape := ⟨4, ![16, 2, 8, 2048]⟩
abbrev S16x2x8x2048x1 : Shape := ⟨5, ![16, 2, 8, 2048, 1]⟩
abbrev S16x1x8x2048x2048 : Shape := ⟨5, ![16, 1, 8, 2048, 2048]⟩
abbrev S16x8x2048x2048 : Shape := ⟨4, ![16, 8, 2048, 2048]⟩
abbrev S16x8x128x2048 : Shape := ⟨4, ![16, 8, 128, 2048]⟩
abbrev S128 : Shape := ⟨1, ![128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩

abbrev nBuf : Space → Nat
  | .hbm => 145
  | .vmem => 0
  | .smem => 0
  | _ => 0

abbrev hbmTy0_0 (i : Nat) : BufTy := match i % 128 with
  | 0 => ⟨S32768x8192, .bf16⟩
  | 1 => ⟨S32x16, .f32⟩
  | 2 => ⟨S1x64, .f32⟩
  | 3 => ⟨S1x64, .f32⟩
  | 4 => ⟨S1x64, .f32⟩
  | 5 => ⟨S1x64, .f32⟩
  | 6 => ⟨S1x128, .f32⟩
  | 7 => ⟨S32768x8192, .f32⟩
  | 8 => ⟨S32768x1024, .f32⟩
  | 9 => ⟨S16x2048x8x2x64, .f32⟩
  | 10 => ⟨S32768x1024, .f32⟩
  | 11 => ⟨S16x2048x8x2x64, .f32⟩
  | 12 => ⟨S32768x1024, .f32⟩
  | 13 => ⟨S16x2048x8x128, .f32⟩
  | 14 => ⟨S32768x1024, .f32⟩
  | 15 => ⟨S32x8, .f32⟩
  | 16 => ⟨S64, .f32⟩
  | 17 => ⟨S64, .f32⟩
  | 18 => ⟨S64, .f32⟩
  | 19 => ⟨S_, .f32⟩
  | 20 => ⟨S_, .f32⟩
  | 21 => ⟨S_, .f32⟩
  | 22 => ⟨S64, .f32⟩
  | 23 => ⟨S64, .f32⟩
  | 24 => ⟨S64, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S2048, .i32⟩
  | 32 => ⟨S2048x1, .i32⟩
  | 33 => ⟨S1x2048, .i32⟩
  | 34 => ⟨S2048x2048, .i32⟩
  | 35 => ⟨S2048x2048, .i32⟩
  | 36 => ⟨S2048x2048, .i32⟩
  | 37 => ⟨S_, .i32⟩
  | 38 => ⟨S2048x2048, .i32⟩
  | 39 => ⟨S2048x2048, .i32⟩
  | 40 => ⟨S_, .i32⟩
  | 41 => ⟨S2048x2048, .i32⟩
  | 42 => ⟨S2048x2048, .i32⟩
  | 43 => ⟨S2048x2048, .f32⟩
  | 44 => ⟨S_, .f32⟩
  | 45 => ⟨S2048x2048, .f32⟩
  | 46 => ⟨S2048x2048, .f32⟩
  | 47 => ⟨S2048x2048, .f32⟩
  | 48 => ⟨S_, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .i32⟩
  | 55 => ⟨S_, .i32⟩
  | 56 => ⟨S2048x2048, .i32⟩
  | 57 => ⟨S2048x2048, .i32⟩
  | 58 => ⟨S_, .i32⟩
  | 59 => ⟨S2048x2048, .i32⟩
  | 60 => ⟨S2048x2048, .i32⟩
  | 61 => ⟨S_, .i32⟩
  | 62 => ⟨S2048x2048, .i32⟩
  | 63 => ⟨S2048x2048, .i1⟩
  | 64 => ⟨S2048x2048, .i32⟩
  | 65 => ⟨S_, .i32⟩
  | 66 => ⟨S2048x2048, .i32⟩
  | 67 => ⟨S2048x2048, .i1⟩
  | 68 => ⟨S_, .i32⟩
  | 69 => ⟨S2048x2048, .i32⟩
  | 70 => ⟨S2048x2048, .i32⟩
  | 71 => ⟨S2048x2048, .i32⟩
  | 72 => ⟨S2048x2048x1, .i32⟩
  | 73 => ⟨S2048x2048x8, .f32⟩
  | 74 => ⟨S8x2048x2048, .f32⟩
  | 75 => ⟨S16x2x8x2048x2048, .f32⟩
  | 76 => ⟨S_, .f32⟩
  | 77 => ⟨S16x2x8x2048x2048, .f32⟩
  | 78 => ⟨S16x2x8x2048x2048, .f32⟩
  | 79 => ⟨S1x1x8x2048x2048, .f32⟩
  | 80 => ⟨S16x2x8x2048x2048, .f32⟩
  | 81 => ⟨S16x2x8x2048x2048, .f32⟩
  | 82 => ⟨S_, .i32⟩
  | 83 => ⟨S2048x2048, .i32⟩
  | 84 => ⟨S2048x2048, .i1⟩
  | 85 => ⟨S_, .f32⟩
  | 86 => ⟨S_, .f32⟩
  | 87 => ⟨S16x2x8x2048x2048, .i1⟩
  | 88 => ⟨S16x2x8x2048x2048, .f32⟩
  | 89 => ⟨S16x2x8x2048x2048, .f32⟩
  | 90 => ⟨S_, .f32⟩
  | 91 => ⟨S16x2x8x2048, .f32⟩
  | 92 => ⟨S_, .f32⟩
  | 93 => ⟨S16x2x8x2048, .f32⟩
  | 94 => ⟨S16x2x8x2048, .f32⟩
  | 95 => ⟨S16x2x8x2048x1, .f32⟩
  | 96 => ⟨S16x2x8x2048x2048, .f32⟩
  | 97 => ⟨S16x2x8x2048x2048, .f32⟩
  | 98 => ⟨S16x2x8x2048x2048, .f32⟩
  | 99 => ⟨S_, .f32⟩
  | 100 => ⟨S16x2x8x2048, .f32⟩
  | 101 => ⟨S16x2x8x2048x1, .f32⟩
  | 102 => ⟨S16x2x8x2048x2048, .f32⟩
  | 103 => ⟨S16x2x8x2048x2048, .f32⟩
  | 104 => ⟨S16x1x8x2048x2048, .f32⟩
  | 105 => ⟨S16x8x2048x2048, .f32⟩
  | 106 => ⟨S16x1x8x2048x2048, .f32⟩
  | 107 => ⟨S16x8x2048x2048, .f32⟩
  | 108 => ⟨S16x8x2048x2048, .f32⟩
  | 109 => ⟨S16x8x2048x2048, .f32⟩
  | 110 => ⟨S16x8x2048x2048, .f32⟩
  | 111 => ⟨S16x8x128x2048, .f32⟩
  | 112 => ⟨S16x2048x8x128, .f32⟩
  | 113 => ⟨S128, .f32⟩
  | 114 => ⟨S16x2048x8x128, .f32⟩
  | 115 => ⟨S_, .f32⟩
  | 116 => ⟨S16x2048x8, .f32⟩
  | 117 => ⟨S16x2048x8x1, .f32⟩
  | 118 => ⟨S_, .f32⟩
  | 119 => ⟨S16x2048x8x1, .f32⟩
  | 120 => ⟨S16x2048x8x1, .f32⟩
  | 121 => ⟨S_, .f32⟩
  | 122 => ⟨S16x2048x8x1, .f32⟩
  | 123 => ⟨S16x2048x8x1, .f32⟩
  | 124 => ⟨S16x2048x8x1, .f32⟩
  | 125 => ⟨S16x2048x8x128, .f32⟩
  | 126 => ⟨S16x2048x8x128, .f32⟩
  | 127 => ⟨S1x1x1x128, .f32⟩
  | _ => ⟨S32768x8192, .bf16⟩

abbrev hbmTy0_1 (i : Nat) : BufTy := match i % 128 with
  | 0 => ⟨S16x2048x8x128, .f32⟩
  | 1 => ⟨S16x2048x8x128, .f32⟩
  | 2 => ⟨S_, .f32⟩
  | 3 => ⟨S16x2048x8x128, .f32⟩
  | 4 => ⟨S16x2048x8x128, .f32⟩
  | 5 => ⟨S32768x1024, .f32⟩
  | 6 => ⟨S32768x1024, .f32⟩
  | 7 => ⟨S32768x1024, .f32⟩
  | 8 => ⟨S_, .f32⟩
  | 9 => ⟨S32768x1024, .f32⟩
  | 10 => ⟨S32768x1024, .f32⟩
  | 11 => ⟨S_, .f32⟩
  | 12 => ⟨S32768x1024, .f32⟩
  | 13 => ⟨S32768x1024, .f32⟩
  | 14 => ⟨S32768x1024, .f32⟩
  | 15 => ⟨S32768x1024, .f32⟩
  | 16 => ⟨S32768x1024, .bf16⟩
  | _ => ⟨S32768x8192, .bf16⟩

abbrev hbmTy (i : Nat) : BufTy := match i / 128 with
  | 0 => hbmTy0_0 i
  | 1 => hbmTy0_1 i
  | _ => ⟨S32768x8192, .bf16⟩

abbrev bufTy : (tb : Table) → Fin (tcTables nBuf tb) → BufTy
  | .hbm, ⟨i, _⟩ => hbmTy i
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_cst_15 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_16 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_cst_18 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_call2_v0 : Ref sig .tc := ⟨.hbm, 134, rfl⟩
abbrev main_call2_v1 : Ref sig .tc := ⟨.hbm, 135, rfl⟩
abbrev main_call2_cst : Ref sig .tc := ⟨.hbm, 136, rfl⟩
abbrev main_call2_v2 : Ref sig .tc := ⟨.hbm, 137, rfl⟩
abbrev main_call2_v3 : Ref sig .tc := ⟨.hbm, 138, rfl⟩
abbrev main_call2_cst_0 : Ref sig .tc := ⟨.hbm, 139, rfl⟩
abbrev main_call2_v4 : Ref sig .tc := ⟨.hbm, 140, rfl⟩
abbrev main_call2_v5 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩

abbrev nD : Nat := 1
abbrev τ : Topo := Topo.v7x

variable {F : FTy → Type} [FloatOps F]
-- ==== Kernel2.lean ====
abbrev S16x2048x2048 : Shape := ⟨3, ![16, 2048, 2048]⟩
abbrev S1x2048 : Shape := ⟨2, ![1, 2048]⟩
abbrev S1x2048x8528 : Shape := ⟨3, ![1, 2048, 8528]⟩
abbrev S1x256 : Shape := ⟨2, ![1, 256]⟩
abbrev S1x64 : Shape := ⟨2, ![1, 64]⟩
abbrev S32768x2048 : Shape := ⟨2, ![32768, 2048]⟩
abbrev S2048x8528 : Shape := ⟨2, ![2048, 8528]⟩
abbrev S2048x1024 : Shape := ⟨2, ![2048, 1024]⟩
abbrev S2048x2048 : Shape := ⟨2, ![2048, 2048]⟩
abbrev S2048x256 : Shape := ⟨2, ![2048, 256]⟩
abbrev S2048x64 : Shape := ⟨2, ![2048, 64]⟩
abbrev S2048x16 : Shape := ⟨2, ![2048, 16]⟩
abbrev S2048x2x8x64 : Shape := ⟨4, ![2048, 2, 8, 64]⟩
abbrev S2048x8x2x64 : Shape := ⟨4, ![2048, 8, 2, 64]⟩
abbrev S2048x8192 : Shape := ⟨2, ![2048, 8192]⟩
abbrev S_ : Shape := ⟨0, ![]⟩
abbrev S2048x112 : Shape := ⟨2, ![2048, 112]⟩
abbrev S2048x512 : Shape := ⟨2, ![2048, 512]⟩
abbrev S64 : Shape := ⟨1, ![64]⟩
abbrev S128 : Shape := ⟨1, ![128]⟩
abbrev S2048 : Shape := ⟨1, ![2048]⟩
abbrev S256 : Shape := ⟨1, ![256]⟩
abbrev S1x128 : Shape := ⟨2, ![1, 128]⟩
abbrev S32768x8192 : Shape := ⟨2, ![32768, 8192]⟩
abbrev S32768x256 : Shape := ⟨2, ![32768, 256]⟩
abbrev S32768x128 : Shape := ⟨2, ![32768, 128]⟩
abbrev S1024x2048 : Shape := ⟨2, ![1024, 2048]⟩
abbrev S1024x1024 : Shape := ⟨2, ![1024, 1024]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1024x512 : Shape := ⟨2, ![1024, 512]⟩

abbrev nBuf : Space → Nat
  | .hbm => 41
  | .vmem => 17
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x8528, .f32⟩
  | .hbm, ⟨3, _⟩ => ⟨S1x256, .f32⟩
  | .hbm, ⟨4, _⟩ => ⟨S1x64, .f32⟩
  | .hbm, ⟨5, _⟩ => ⟨S32768x2048, .f32⟩
  | .hbm, ⟨6, _⟩ => ⟨S2048x8528, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x256, .f32⟩
  | .hbm, ⟨13, _⟩ => ⟨S2048x1024, .f32⟩
  | .hbm, ⟨14, _⟩ => ⟨S2048x1024, .f32⟩
  | .hbm, ⟨15, _⟩ => ⟨S2048x64, .f32⟩
  | .hbm, ⟨16, _⟩ => ⟨S2048x16, .f32⟩
  | .hbm, ⟨17, _⟩ => ⟨S2048x2x8x64, .f32⟩
  | .hbm, ⟨18, _⟩ => ⟨S2048x8x2x64, .f32⟩
  | .hbm, ⟨19, _⟩ => ⟨S2048x1024, .f32⟩
  | .hbm, ⟨20, _⟩ => ⟨S2048x2x8x64, .f32⟩
  | .hbm, ⟨21, _⟩ => ⟨S2048x8x2x64, .f32⟩
  | .hbm, ⟨22, _⟩ => ⟨S2048x1024, .f32⟩
  | .hbm, ⟨23, _⟩ => ⟨S2048x8192, .f32⟩
  | .hbm, ⟨24, _⟩ => ⟨S_, .f32⟩
  | .hbm, ⟨25, _⟩ => ⟨S2048x112, .f32⟩
  | .hbm, ⟨26, _⟩ => ⟨S2048x512, .f32⟩
  | .hbm, ⟨27, _⟩ => ⟨S2048x8192, .bf16⟩
  | .hbm, ⟨28, _⟩ => ⟨S2048x512, .bf16⟩
  | .hbm, ⟨29, _⟩ => ⟨S64, .f32⟩
  | .hbm, ⟨30, _⟩ => ⟨S64, .f32⟩
  | .hbm, ⟨31, _⟩ => ⟨S128, .f32⟩
  | .hbm, ⟨32, _⟩ => ⟨S2048, .f32⟩
  | .hbm, ⟨33, _⟩ => ⟨S1x2048, .f32⟩
  | .hbm, ⟨34, _⟩ => ⟨S256, .f32⟩
  | .hbm, ⟨35, _⟩ => ⟨S1x256, .f32⟩
  | .hbm, ⟨36, _⟩ => ⟨S1x128, .f32⟩
  | .hbm, ⟨37, _⟩ => ⟨S32768x8192, .bf16⟩
  | .hbm, ⟨38, _⟩ => ⟨S32768x256, .bf16⟩
  | .hbm, ⟨39, _⟩ => ⟨S32768x128, .bf16⟩
  | .hbm, ⟨40, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x512, .bf16⟩
  | .local _ .vmem, ⟨6, _⟩ => ⟨S1x256, .f32⟩
  | .local _ .vmem, ⟨7, _⟩ => ⟨S1x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x256, .bf16⟩
  | .local _ .vmem, ⟨11, _⟩ => ⟨S1024x256, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_0 : Ref sig .tc := ⟨.hbm, 37, rfl⟩
abbrev main_v31_1 : Ref sig .tc := ⟨.hbm, 38, rfl⟩
abbrev main_v31_2 : Ref sig .tc := ⟨.hbm, 39, rfl⟩
abbrev main_v31_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16x2048x2048 : Shape := ⟨3, ![16, 2048, 2048]⟩
abbrev S1x2048 : Shape := ⟨2, ![1, 2048]⟩
abbrev S1x2048x8528 : Shape := ⟨3, ![1, 2048, 8528]⟩
abbrev S1x256 : Shape := ⟨2, ![1, 256]⟩
abbrev S1x64 : Shape := ⟨2, ![1, 64]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x8528 : Shape := ⟨2, ![2048, 8528]⟩
abbrev S16x2048x8528 : Shape := ⟨3, ![16, 2048, 8528]⟩
abbrev S32768x8528 : Shape := ⟨2, ![32768, 8528]⟩
abbrev S32768x1024 : Shape := ⟨2, ![32768, 1024]⟩
abbrev S32768x2048 : Shape := ⟨2, ![32768, 2048]⟩
abbrev S32768x256 : Shape := ⟨2, ![32768, 256]⟩
abbrev S32768x64 : Shape := ⟨2, ![32768, 64]⟩
abbrev S32768x16 : Shape := ⟨2, ![32768, 16]⟩
abbrev S256 : Shape := ⟨1, ![256]⟩
abbrev S32768 : Shape := ⟨1, ![32768]⟩
abbrev S32768x1 : Shape := ⟨2, ![32768, 1]⟩
abbrev S64 : Shape := ⟨1, ![64]⟩
abbrev S32768x2x8x64 : Shape := ⟨4, ![32768, 2, 8, 64]⟩
abbrev S32768x8x2x64 : Shape := ⟨4, ![32768, 8, 2, 64]⟩
abbrev S32768x8192 : Shape := ⟨2, ![32768, 8192]⟩
abbrev S32768x128 : Shape := ⟨2, ![32768, 128]⟩
abbrev S32768x112 : Shape := ⟨2, ![32768, 112]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x8528, .f32⟩
  | .hbm, ⟨3, _⟩ => ⟨S1x256, .f32⟩
  | .hbm, ⟨4, _⟩ => ⟨S1x64, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S2048x8528, .f32⟩
  | .hbm, ⟨23, _⟩ => ⟨S16x2048x8528, .f32⟩
  | .hbm, ⟨24, _⟩ => ⟨S32768x8528, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x2048, .f32⟩
  | .hbm, ⟨30, _⟩ => ⟨S32768x256, .f32⟩
  | .hbm, ⟨31, _⟩ => ⟨S32768x1024, .f32⟩
  | .hbm, ⟨32, _⟩ => ⟨S32768x1024, .f32⟩
  | .hbm, ⟨33, _⟩ => ⟨S32768x64, .f32⟩
  | .hbm, ⟨34, _⟩ => ⟨S32768x16, .f32⟩
  | .hbm, ⟨35, _⟩ => ⟨S256, .f32⟩
  | .hbm, ⟨36, _⟩ => ⟨S32768x256, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x256, .f32⟩
  | .hbm, ⟨48, _⟩ => ⟨S32768x256, .f32⟩
  | .hbm, ⟨49, _⟩ => ⟨S1x256, .f32⟩
  | .hbm, ⟨50, _⟩ => ⟨S32768x256, .f32⟩
  | .hbm, ⟨51, _⟩ => ⟨S32768x256, .f32⟩
  | .hbm, ⟨52, _⟩ => ⟨S64, .f32⟩
  | .hbm, ⟨53, _⟩ => ⟨S32768x64, .f32⟩
  | .hbm, ⟨54, _⟩ => ⟨S_, .f32⟩
  | .hbm, ⟨55, _⟩ => ⟨S32768, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1, .f32⟩
  | .hbm, ⟨64, _⟩ => ⟨S32768x64, .f32⟩
  | .hbm, ⟨65, _⟩ => ⟨S32768x64, .f32⟩
  | .hbm, ⟨66, _⟩ => ⟨S1x64, .f32⟩
  | .hbm, ⟨67, _⟩ => ⟨S32768x64, .f32⟩
  | .hbm, ⟨68, _⟩ => ⟨S32768x64, .f32⟩
  | .hbm, ⟨69, _⟩ => ⟨S32768x2x8x64, .f32⟩
  | .hbm, ⟨70, _⟩ => ⟨S32768x8x2x64, .f32⟩
  | .hbm, ⟨71, _⟩ => ⟨S32768x1024, .f32⟩
  | .hbm, ⟨72, _⟩ => ⟨S32768x2x8x64, .f32⟩
  | .hbm, ⟨73, _⟩ => ⟨S32768x8x2x64, .f32⟩
  | .hbm, ⟨74, _⟩ => ⟨S32768x1024, .f32⟩
  | .hbm, ⟨75, _⟩ => ⟨S32768x8192, .f32⟩
  | .hbm, ⟨76, _⟩ => ⟨S32768x8192, .bf16⟩
  | .hbm, ⟨77, _⟩ => ⟨S32768x256, .bf16⟩
  | .hbm, ⟨78, _⟩ => ⟨S32768x128, .f32⟩
  | .hbm, ⟨79, _⟩ => ⟨S32768x128, .bf16⟩
  | .hbm, ⟨80, _⟩ => ⟨S_, .f32⟩
  | .hbm, ⟨81, _⟩ => ⟨S32768x112, .f32⟩
  | .hbm, ⟨82, _⟩ => ⟨S32768x128, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Kernel3.lean ====
abbrev S32768x1024 : Shape := ⟨2, ![32768, 1024]⟩
abbrev S16x2048x2048 : Shape := ⟨3, ![16, 2048, 2048]⟩
abbrev S1x2048x2048 : Shape := ⟨3, ![1, 2048, 2048]⟩
abbrev S1x2048 : Shape := ⟨2, ![1, 2048]⟩
abbrev S32768x2048 : Shape := ⟨2, ![32768, 2048]⟩
abbrev S2048x2048 : Shape := ⟨2, ![2048, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S16x2048x2048, .f32⟩
  | .hbm, ⟨3, _⟩ => ⟨S1x2048x2048, .f32⟩
  | .hbm, ⟨4, _⟩ => ⟨S1x2048, .f32⟩
  | .hbm, ⟨5, _⟩ => ⟨S32768x2048, .f32⟩
  | .hbm, ⟨6, _⟩ => ⟨S2048x2048, .f32⟩
  | .hbm, ⟨7, _⟩ => ⟨S2048x2048, .bf16⟩
  | .hbm, ⟨8, _⟩ => ⟨S2048, .f32⟩
  | .hbm, ⟨9, _⟩ => ⟨S1x2048, .f32⟩
  | .hbm, ⟨10, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S16x2048x2048 : Shape := ⟨3, ![16, 2048, 2048]⟩
abbrev S1x2048x2048 : Shape := ⟨3, ![1, 2048, 2048]⟩
abbrev S1x2048 : Shape := ⟨2, ![1, 2048]⟩
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S16x2048x2048, .f32⟩
  | .hbm, ⟨3, _⟩ => ⟨S1x2048x2048, .f32⟩
  | .hbm, ⟨4, _⟩ => ⟨S1x2048, .f32⟩
  | .hbm, ⟨5, _⟩ => ⟨S32768x1024, .f32⟩
  | .hbm, ⟨6, _⟩ => ⟨S32768x1024, .f32⟩
  | .hbm, ⟨7, _⟩ => ⟨S32768x2048, .f32⟩
  | .hbm, ⟨8, _⟩ => ⟨S16x2048x2048, .f32⟩
  | .hbm, ⟨9, _⟩ => ⟨S2048x2048, .f32⟩
  | .hbm, ⟨10, _⟩ => ⟨S16x2048x2048, .f32⟩
  | .hbm, ⟨11, _⟩ => ⟨S2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S1x1x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.AttBodyIdeal.lean ====
/- The attention's body, run at every point of its grid. A point holds one head of one sequence; the body goes over
   its eight blocks of queries and, for each, over the blocks of keys up to that of the queries, carrying for the two
   halves of the head the running maximum, the running sum and the running weighted values. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.TableIdle
public import Idealize.ShloMosaic.Lib.Pipeline.ValueKit
public import Idealize.ShloMosaic.Lib.VecWindow
public import proofs.«01_k».proof.Defs

@[expose] public section

-- membership in a rectangle of production extents (`View.cover_of_tiled`) is checked one coordinate
-- after another along the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Reading back -/

/-- A load of the box written last reads what was written. -/
theorem read_hit {κ : Kind} {sp : Space} {s : Shape} {e : EltTy} (v : View sig κ sp s e) (f : v.ty.Contents (Elt F)) (r : Rect s) (w : r.shape.Idx → Elt F e)
    (L : List (View.Piece (Elt F) s e)) : v.readAt (Elt F) r.toLoadRect (v.writes (Elt F) f (⟨r, w⟩ :: L)) = w :=
  funext fun j => View.read_writes_cons_emb v f r w L j

/-- A load apart from the box written last reads what was there before. -/
theorem read_miss {κ : Kind} {sp : Space} {s : Shape} {e : EltTy} (v : View sig κ sp s e) (f : v.ty.Contents (Elt F)) (r : Rect s) (w : r.shape.Idx → Elt F e)
    (L : List (View.Piece (Elt F) s e)) (B : LoadRect s) (h : LoadRect.disjAll [r] B = true) :
    v.readAt (Elt F) B (v.writes (Elt F) f (⟨r, w⟩ :: L)) = v.readAt (Elt F) B (v.writes (Elt F) f L) := by
  have := View.readAt_writes_of_forall_not_mem v (v.writes (Elt F) f L) [⟨r, w⟩] B (LoadRect.forall_not_mem_of_disjAll [⟨r, w⟩] B h)
  rwa [View.writes_cons, View.writes_nil, ← View.writes_cons] at this

/-! ## The running values -/

/-- The two planes of a pair of columns, and of a pair of blocks. -/
abbrev lo1 : Rect S2x256x1 := Rect.unit (s := S2x256x1) ![0, 0, 0] S1x256x1.size inb_S2x256x1_S1x256x1_0_0_0
abbrev hi1 : Rect S2x256x1 := Rect.unit (s := S2x256x1) ![1, 0, 0] S1x256x1.size inb_S2x256x1_S1x256x1_1_0_0
abbrev lo128 : Rect S2x256x128 := Rect.unit (s := S2x256x128) ![0, 0, 0] S1x256x128.size inb_S2x256x128_S1x256x128_0_0_0
abbrev hi128 : Rect S2x256x128 := Rect.unit (s := S2x256x128) ![1, 0, 0] S1x256x128.size inb_S2x256x128_S1x256x128_1_0_0

/-- What the body carries from key block to key block, for either half: the maximum, the sum, the weighted values. -/
structure St (F : FTy → Type) [FloatOps F] where
  m0 : Vec F S1x256x1 .f32
  l0 : Vec F S1x256x1 .f32
  a0 : Vec F S1x256x128 .f32
  m1 : Vec F S1x256x1 .f32
  l1 : Vec F S1x256x1 .f32
  a1 : Vec F S1x256x128 .f32

/-- One block of keys `K` with its values `V` and its biases `B`, for the scaled queries `Q` of both halves. -/
def St.next (K V : Vec F S256x128 .bf16) (B : Vec F S1x1x256x256 .f32) (Q : Vec F S512x128 .bf16) (s : St F) : St F where
  m0 := k0_pay13 (k0_pay8 K B Q s.m0)
  l0 := k0_pay11 K B Q s.m0 s.l0
  a0 := k0_pay12 V (k0_pay9 K B Q s.m0) (k0_pay10 K B Q s.m0) s.a0
  m1 := k0_pay45 (k0_pay16 (k0_pay4 B) (k0_pay5 K Q) s.m1)
  l1 := k0_pay19 (k0_pay4 B) (k0_pay5 K Q) s.m1 s.l1
  a1 := k0_pay44 V (k0_pay17 (k0_pay4 B) (k0_pay5 K Q) s.m1) (k0_pay18 (k0_pay4 B) (k0_pay5 K Q) s.m1) (k0_pay20 s.a1)

/-- The three buffers hold the running values. -/
structure Holds (arg14 : Memref sig .tc .vmem S2x256x1 .f32) (arg15 : Memref sig .tc .vmem S2x256x1 .f32) (arg16 : Memref sig .tc .vmem S2x256x128 .f32)
    (f14 : BufTy.Contents (Elt F) arg14.view.ty) (f15 : BufTy.Contents (Elt F) arg15.view.ty) (f16 : BufTy.Contents (Elt F) arg16.view.ty) (s : St F) : Prop where
  m0 : arg14.view.readAt (Elt F) lo1.toLoadRect f14 = s.m0
  m1 : arg14.view.readAt (Elt F) hi1.toLoadRect f14 = s.m1
  l0 : arg15.view.readAt (Elt F) lo1.toLoadRect f15 = s.l0
  l1 : arg15.view.readAt (Elt F) hi1.toLoadRect f15 = s.l1
  a0 : arg16.view.readAt (Elt F) lo128.toLoadRect f16 = s.a0
  a1 : arg16.view.readAt (Elt F) hi128.toLoadRect f16 = s.a1

set_option maxHeartbeats 1000000 in
/-- One block of keys takes the running values to the next ones. -/
theorem run_keys (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x3x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S512x128 .bf16) (harg13 : arg13.IsWhole) (arg14 : Memref sig .tc .vmem S2x256x1 .f32) (harg14 : arg14.IsWhole) (arg15 : Memref sig .tc .vmem S2x256x1 .f32) (harg15 : arg15.IsWhole) (arg16 : Memref sig .tc .vmem S2x256x128 .f32) (harg16 : arg16.IsWhole) (v18 : FVec F S1x1 .f32) (k0_t1 : Fin k0_t1_loop.trips) (arg17 : BitVec 32) (v52 : BitVec 32)
    (X3 : BufTy.Contents (Elt F) arg3.view.ty) (X4 : BufTy.Contents (Elt F) arg4.view.ty) (X6 : BufTy.Contents (Elt F) arg6.view.ty) (X13 : BufTy.Contents (Elt F) arg13.view.ty)
    (k : Fin (k0_t2_loop k0_t1).trips) (s : St F) :
    (iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg13.view.loc (c : Thread nD τ) ↦[arg13.view.set]{fullShare} X13) ∗ ∃ f14 f15 f16, (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ ⌜Holds arg14 arg15 arg16 f14 f15 f16 s⌝) : sProp 𝕄)
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 k0_t1 arg17 v52 k PUnit.unit)
          (fun _ => iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg13.view.loc (c : Thread nD τ) ↦[arg13.view.set]{fullShare} X13) ∗ ∃ f14 f15 f16, (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ ⌜Holds arg14 arg15 arg16 f14 f15 f16
            (s.next (arg3.view.readAt (Elt F) (Rect.unit (s := S2048x128) (k0_off2 k0_t1 k) S256x128.size (k0_off2_inb k0_t1 k)).toLoadRect X3)
              (arg4.view.readAt (Elt F) (Rect.unit (s := S2048x128) (k0_off2 k0_t1 k) S256x128.size (k0_off2_inb k0_t1 k)).toLoadRect X4)
              (arg6.view.readAt (Elt F) (Rect.unit (s := S1x3x256x256) (k0_off3 k0_t1 k) S1x1x256x256.size (k0_off3_inb k0_t1 k)).toLoadRect X6)
              (arg13.view.read (Elt F) X13))⌝)) := by
  unfold k0_t2_body
  iintro ⟨H3, H4, H6, H13, %f14, %f15, %f16, H14, H15, H16, %hs⟩
  sl_exec
  sl_step
  isplitl [H3]; · iexact H3
  isplitl [H4]; · iexact H4
  isplitl [H6]; · iexact H6
  isplitl [H13]; · iexact H13
  iexists _; iexists _; iexists _
  isplitl [H14]; · iexact H14
  isplitl [H15]; · iexact H15
  isplitl [H16]; · iexact H16
  ipureintro
  have hQ : arg13.view.readAt (Elt F) (Rect.unit (s := S512x128) ![0, 0] S512x128.size inb_S512x128_S512x128_0_0).toLoadRect X13 = arg13.view.read (Elt F) X13 := by
    simp (disch := decide) only [View.readAt_eq_ld, View.ld_unit_lit']
  unfold St.next
  rw [← hs.m0, ← hs.m1, ← hs.l0, ← hs.l1, ← hs.a0, ← hs.a1, ← hQ]
  constructor
  · exact (read_miss _ _ _ _ _ _ (by decide)).trans (read_hit _ _ _ _ _)
  · exact read_hit _ _ _ _ _
  · exact (read_miss _ _ _ _ _ _ (by decide)).trans (read_hit _ _ _ _ _)
  · exact read_hit _ _ _ _ _
  · exact (read_miss _ _ _ _ _ _ (by decide)).trans (read_hit _ _ _ _ _)
  · exact read_hit _ _ _ _ _

/-! ## A block of queries -/

/-- What the running values start from. -/
def St.start : St F where
  m0 := View.ld (k0_pay41 (F := F)) lo1
  l0 := View.ld (k0_pay42 (F := F)) lo1
  a0 := View.ld (k0_pay43 (F := F)) lo128
  m1 := View.ld (k0_pay41 (F := F)) hi1
  l1 := View.ld (k0_pay42 (F := F)) hi1
  a1 := View.ld (k0_pay43 (F := F)) hi128

/-- The running values of query block `t` before key block `k`, for the scaled queries `Q`. -/
def stAt (x3 x4 : Vec F S2048x128 .bf16) (x6 : Vec F S1x3x256x256 .f32) (Q : Vec F S512x128 .bf16) (t : Fin k0_t1_loop.trips) : ℕ → St F
  | 0 => St.start
  | k + 1 => if h : k < (k0_t2_loop t).trips then
      (stAt x3 x4 x6 Q t k).next (View.ld x3 (Rect.unit (s := S2048x128) (k0_off2 t ⟨k, h⟩) S256x128.size (k0_off2_inb t ⟨k, h⟩)))
        (View.ld x4 (Rect.unit (s := S2048x128) (k0_off2 t ⟨k, h⟩) S256x128.size (k0_off2_inb t ⟨k, h⟩)))
        (View.ld x6 (Rect.unit (s := S1x3x256x256) (k0_off3 t ⟨k, h⟩) S1x1x256x256.size (k0_off3_inb t ⟨k, h⟩))) Q
    else stAt x3 x4 x6 Q t k

theorem stAt_succ (x3 x4 : Vec F S2048x128 .bf16) (x6 : Vec F S1x3x256x256 .f32) (Q : Vec F S512x128 .bf16) (t : Fin k0_t1_loop.trips) (k : Fin (k0_t2_loop t).trips) :
    stAt x3 x4 x6 Q t (k.val + 1) = (stAt x3 x4 x6 Q t k.val).next (View.ld x3 (Rect.unit (s := S2048x128) (k0_off2 t k) S256x128.size (k0_off2_inb t k)))
        (View.ld x4 (Rect.unit (s := S2048x128) (k0_off2 t k) S256x128.size (k0_off2_inb t k)))
        (View.ld x6 (Rect.unit (s := S1x3x256x256) (k0_off3 t k) S1x1x256x256.size (k0_off3_inb t k))) Q := by
  rw [stAt, dif_pos k.isLt]

/-- The loop over the key blocks keeps the running values. -/
@[instance_reducible] def keysLoop (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x3x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S512x128 .bf16) (harg13 : arg13.IsWhole) (arg14 : Memref sig .tc .vmem S2x256x1 .f32) (harg14 : arg14.IsWhole) (arg15 : Memref sig .tc .vmem S2x256x1 .f32) (harg15 : arg15.IsWhole) (arg16 : Memref sig .tc .vmem S2x256x128 .f32) (harg16 : arg16.IsWhole) (v18 : FVec F S1x1 .f32) (k0_t1 : Fin k0_t1_loop.trips) (arg17 : BitVec 32) (v52 : BitVec 32)
    (X3 : BufTy.Contents (Elt F) arg3.view.ty) (X4 : BufTy.Contents (Elt F) arg4.view.ty) (X6 : BufTy.Contents (Elt F) arg6.view.ty) (X13 : BufTy.Contents (Elt F) arg13.view.ty) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 v18 k0_t1 arg17 v52 where
  inv k _ := iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg13.view.loc (c : Thread nD τ) ↦[arg13.view.set]{fullShare} X13) ∗ ∃ f14 f15 f16, (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)
    ∗ ⌜Holds arg14 arg15 arg16 f14 f15 f16 (stAt (arg3.view.read (Elt F) X3) (arg4.view.read (Elt F) X4) (arg6.view.read (Elt F) X6) (arg13.view.read (Elt F) X13) k0_t1 k)⌝)
  step k _ := by
    rw [stAt_succ]
    exact run_keys c E i arg2 harg2 arg3 harg3 arg4 harg4 arg5 harg5 arg6 harg6 arg7 harg7 arg8 harg8 arg9 harg9 arg10 harg10 arg11 harg11 arg12 harg12 arg13 harg13 arg14 harg14 arg15 harg15 arg16 harg16 v18 k0_t1 arg17 v52 X3 X4 X6 X13 k _

/-- The running values of query block `t` after its key blocks. -/
def stEnd (x3 x4 : Vec F S2048x128 .bf16) (x6 : Vec F S1x3x256x256 .f32) (Q : Vec F S512x128 .bf16) (t : Fin k0_t1_loop.trips) : St F :=
  stAt x3 x4 x6 Q t (k0_t2_loop t).trips

set_option maxHeartbeats 1000000 in
/-- The key blocks of one query block, then the normalised difference of the two halves. -/
theorem run_part6 (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x3x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S512x128 .bf16) (harg13 : arg13.IsWhole) (arg14 : Memref sig .tc .vmem S2x256x1 .f32) (harg14 : arg14.IsWhole) (arg15 : Memref sig .tc .vmem S2x256x1 .f32) (harg15 : arg15.IsWhole) (arg16 : Memref sig .tc .vmem S2x256x128 .f32) (harg16 : arg16.IsWhole) (v18 : FVec F S1x1 .f32) (k0_t1 : Fin k0_t1_loop.trips) (arg17 : BitVec 32) (v52 : BitVec 32)
    (X3 : BufTy.Contents (Elt F) arg3.view.ty) (X4 : BufTy.Contents (Elt F) arg4.view.ty) (X6 : BufTy.Contents (Elt F) arg6.view.ty) (X11 : BufTy.Contents (Elt F) arg11.view.ty) (X13 : BufTy.Contents (Elt F) arg13.view.ty)
    (K : FVec F S256x128 .f32 → sProp 𝕄) :
    (iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg11.view.loc (c : Thread nD τ) ↦[arg11.view.set]{fullShare} X11) ∗ (arg13.view.loc (c : Thread nD τ) ↦[arg13.view.set]{fullShare} X13) ∗ (∃ f14 f15 f16, (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ ⌜Holds arg14 arg15 arg16 f14 f15 f16 St.start⌝)
      ∗ (iprop((arg3.view.loc (c : Thread nD τ) ↦[arg3.view.set]{fullShare} X3) ∗ (arg4.view.loc (c : Thread nD τ) ↦[arg4.view.set]{fullShare} X4) ∗ (arg6.view.loc (c : Thread nD τ) ↦[arg6.view.set]{fullShare} X6) ∗ (arg11.view.loc (c : Thread nD τ) ↦[arg11.view.set]{fullShare} X11) ∗ (arg13.view.loc (c : Thread nD τ) ↦[arg13.view.set]{fullShare} X13) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))) -∗
        K (k0_pay48 v18 (stEnd (arg3.view.read (Elt F) X3) (arg4.view.read (Elt F) X4) (arg6.view.read (Elt F) X6) (arg13.view.read (Elt F) X13) k0_t1).a0
          (stEnd (arg3.view.read (Elt F) X3) (arg4.view.read (Elt F) X4) (arg6.view.read (Elt F) X6) (arg13.view.read (Elt F) X13) k0_t1).l0
          (stEnd (arg3.view.read (Elt F) X3) (arg4.view.read (Elt F) X4) (arg6.view.read (Elt F) X6) (arg13.view.read (Elt F) X13) k0_t1).a1
          (stEnd (arg3.view.read (Elt F) X3) (arg4.view.read (Elt F) X4) (arg6.view.read (Elt F) X6) (arg13.view.read (Elt F) X13) k0_t1).l1
          (arg11.view.read (Elt F) X11)))) : sProp 𝕄)
      ⊢ wp frame (wpE (defs₀ (F := F)) Variants.none (c : Thread nD τ) none) E (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v18 k0_t1 arg17 v52) K := by
  simp only [k0_part6_eq_skeleton]; unfold k0_part6_skel
  have htr : (k0_t3_loop k0_t1).trips = 0 := Nat.le_zero.1 (k0_t3_abs k0_t1).2.1
  let L := keysLoop c E i arg2 harg2 arg3 harg3 arg4 harg4 arg5 harg5 arg6 harg6 arg7 harg7 arg8 harg8 arg9 harg9 arg10 harg10 arg11 harg11 arg12 harg12 arg13 harg13 arg14 harg14 arg15 harg15 arg16 harg16 v18 k0_t1 arg17 v52 X3 X4 X6 X13
  iintro ⟨H3, H4, H6, H11, H13, ⟨%f14, %f15, %f16, H14, H15, H16, %hs⟩, Hk⟩
  sl_exec
  sl_step
  have htr' : Scf.trips (k0_t3_loop k0_t1).lb (k0_t3_loop k0_t1).ub (k0_t3_loop k0_t1).st = 0 := htr
  have h11 : arg11.view.readAt (Elt F) (Rect.unit (s := S1x128) ![0, 0] S1x128.size inb_S1x128_S1x128_0_0).toLoadRect X11 = arg11.view.read (Elt F) X11 := by
    simp (disch := decide) only [View.readAt_eq_ld, View.ld_unit_lit']
  have hE : Holds arg14 arg15 arg16 _ _ _ (stEnd (arg3.view.read (Elt F) X3) (arg4.view.read (Elt F) X4) (arg6.view.read (Elt F) X6) (arg13.view.read (Elt F) X13) k0_t1) := hL7
  delta run_part6.sl.v58 run_part6.sl.v60 run_part6.sl.v64 run_part6.sl.v66
  simp only [htr', pb_k0_t3, View.writes_nil, h11]
  have e0 := hE.a0
  have e1 := hE.l0
  have e2 := hE.a1
  have e3 := hE.l1
  unfold lo128 at e0; unfold lo1 at e1; unfold hi128 at e2; unfold hi1 at e3
  rw [e0, e1, e2, e3]
  iapply Hk
  isplitl [H3]; · iexact H3
  isplitl [H4]; · iexact H4
  isplitl [H6]; · iexact H6
  isplitl [H11]; · iexact H11
  isplitl [H13]; · iexact H13
  isplitl [H14]; · iexists _; iexact H14
  isplitl [H15]; · iexists _; iexact H15
  iexists _; iexact H16

/-- The scaled queries of the two halves, one above the other: each half of the columns is kept for one and zeroed for
    the other. -/
def qs (x : Vec F S256x128 .bf16) : Vec F S512x128 .bf16 :=
  View.canon [⟨Rect.unit (s := S512x128) ![256, 0] S256x128.size inb_S512x128_S256x128_256_0, k0_pay40 (iota .tc S256x128 32 [1] iota_S256x128_d1_w32) k0_pay2 x⟩,
    ⟨Rect.unit (s := S512x128) ![0, 0] S256x128.size inb_S512x128_S256x128_0_0, k0_pay39 (iota .tc S256x128 32 [1] iota_S256x128_d1_w32) k0_pay2 x⟩]

theorem cover_qs (p p' : Vec F S256x128 .bf16) (y : S512x128.Idx) :
    ∃ pc ∈ ([⟨Rect.unit (s := S512x128) ![256, 0] S256x128.size inb_S512x128_S256x128_256_0, p⟩, ⟨Rect.unit (s := S512x128) ![0, 0] S256x128.size inb_S512x128_S256x128_0_0, p'⟩] : List (View.Piece (Elt F) S512x128 .bf16)), y ∈ pc.1.set :=
  View.cover_of_tiled [⟨Rect.unit (s := S512x128) ![256, 0] S256x128.size inb_S512x128_S256x128_256_0, p⟩, ⟨Rect.unit (s := S512x128) ![0, 0] S256x128.size inb_S512x128_S256x128_0_0, p'⟩] S256x128.size (by rfl) y

/-- A load of a buffer written whole reads the box out of what was written. -/
theorem read_whole {κ : Kind} {sp : Space} {s : Shape} {e : EltTy} (v : View sig κ sp s e) (f : v.ty.Contents (Elt F)) {off : Fin s.rank → ℕ} (inb : ∀ a, off a + s.size a ≤ s.size a)
    (w : (Rect.unit off s.size inb).shape.Idx → Elt F e) (L : List (View.Piece (Elt F) s e)) (r : Rect s) :
    v.readAt (Elt F) r.toLoadRect (v.writes (Elt F) f (⟨Rect.unit off s.size inb, w⟩ :: L)) = View.ld (Val := Elt F) w r := by
  rw [View.readAt_eq_ld, View.read_writes_full]

set_option maxHeartbeats 1000000 in
/-- Before the key blocks: the queries are scaled into the scratch and the running values are set. -/
theorem run_part5 (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x3x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S512x128 .bf16) (harg13 : arg13.IsWhole) (arg14 : Memref sig .tc .vmem S2x256x1 .f32) (harg14 : arg14.IsWhole) (arg15 : Memref sig .tc .vmem S2x256x1 .f32) (harg15 : arg15.IsWhole) (arg16 : Memref sig .tc .vmem S2x256x128 .f32) (harg16 : arg16.IsWhole) (k0_t1 : Fin k0_t1_loop.trips)
    (X2 : BufTy.Contents (Elt F) arg2.view.ty)
    (K : (Σ' (arg17 : BitVec 32) (v23 : BitVec 32), BitVec 32) → sProp 𝕄) :
    (iprop((arg2.view.loc (c : Thread nD τ) ↦[arg2.view.set]{fullShare} X2) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))
      ∗ (∀ r, iprop((arg2.view.loc (c : Thread nD τ) ↦[arg2.view.set]{fullShare} X2) ∗ (∃ f13, (arg13.view.loc (c : Thread nD τ) ↦[arg13.view.set]{fullShare} f13) ∗ ⌜arg13.view.read (Elt F) f13 = qs (View.ld (arg2.view.read (Elt F) X2) (Rect.unit (s := S2048x128) (k0_off1 k0_t1) S256x128.size (k0_off1_inb k0_t1)))⌝)
          ∗ (∃ f14 f15 f16, (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ ⌜Holds arg14 arg15 arg16 f14 f15 f16 St.start⌝)) -∗
        K r)) : sProp 𝕄)
      ⊢ wp frame (wpE (defs₀ (F := F)) Variants.none (c : Thread nD τ) none) E (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (iota .tc S256x128 32 [1] iota_S256x128_d1_w32) k0_pay2 0#32 1#32 k0_t1) K := by
  simp only [k0_part5_eq_skeleton]; unfold k0_part5_skel
  iintro ⟨H2, ⟨%f13, H13⟩, ⟨%f14, H14⟩, ⟨%f15, H15⟩, ⟨%f16, H16⟩, Hk⟩
  sl_exec
  sl_step
  iapply Hk
  isplitl [H2]; · iexact H2
  isplitl [H13]
  · iexists _; isplitl [H13]; · iexact H13
    ipureintro
    rw [View.read_writes_eq_canon _ _ _ (cover_qs _ _)]; rfl
  iexists _; iexists _; iexists _
  isplitl [H14]; · iexact H14
  isplitl [H15]; · iexact H15
  isplitl [H16]; · iexact H16
  ipureintro
  constructor
  all_goals exact read_whole (F := F) _ _ _ _ _ _

/-- What one block of queries writes: the gated output of its rows. -/
def outBlock (lam : FVec F S1x1 .f32) (x2 x3 x4 x5 : Vec F S2048x128 .bf16) (x6 : Vec F S1x3x256x256 .f32) (x11 : Vec F S1x128 .f32) (t : Fin k0_t1_loop.trips) : Vec F S256x128 .bf16 :=
  k0_pay3 (k0_pay48 lam (stEnd x3 x4 x6 (qs (View.ld x2 (Rect.unit (s := S2048x128) (k0_off1 t) S256x128.size (k0_off1_inb t)))) t).a0
      (stEnd x3 x4 x6 (qs (View.ld x2 (Rect.unit (s := S2048x128) (k0_off1 t) S256x128.size (k0_off1_inb t)))) t).l0
      (stEnd x3 x4 x6 (qs (View.ld x2 (Rect.unit (s := S2048x128) (k0_off1 t) S256x128.size (k0_off1_inb t)))) t).a1
      (stEnd x3 x4 x6 (qs (View.ld x2 (Rect.unit (s := S2048x128) (k0_off1 t) S256x128.size (k0_off1_inb t)))) t).l1 x11)
    (View.ld x5 (Rect.unit (s := S2048x128) (k0_off1 t) S256x128.size (k0_off1_inb t)))

/-- The rows of query block `t`. -/
abbrev rows (t : Fin k0_t1_loop.trips) : Rect S2048x128 := Rect.unit (s := S2048x128) (k0_off1 t) S256x128.size (k0_off1_inb t)

/-- The query blocks' rows lie apart. -/
theorem rows_apart : ∀ t t' : Fin k0_t1_loop.trips, t ≠ t' → LoadRect.disjAll [rows t] (rows t').toLoadRect = true := by decide +kernel

set_option maxHeartbeats 1000000 in
/-- One block of queries: its rows of the output are written. -/
theorem run_queries (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x3x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S512x128 .bf16) (harg13 : arg13.IsWhole) (arg14 : Memref sig .tc .vmem S2x256x1 .f32) (harg14 : arg14.IsWhole) (arg15 : Memref sig .tc .vmem S2x256x1 .f32) (harg15 : arg15.IsWhole) (arg16 : Memref sig .tc .vmem S2x256x128 .f32) (harg16 : arg16.IsWhole) (v0 v2 v8 v10 : Vec F S1x64 .f32) (k0_t1 : Fin k0_t1_loop.trips)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X11 : BufTy.Contents (Elt F) arg11.view.ty) (f12 : BufTy.Contents (Elt F) arg12.view.ty)
    (K : PUnit → sProp 𝕄) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} X11) ∗ (arg12.view.loc (c : Thread nD τ) ↦[arg12.view.set]{fullShare} f12) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))
      ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} X11)
            ∗ (arg12.view.loc (c : Thread nD τ) ↦[arg12.view.set]{fullShare} arg12.view.writes (Elt F) f12 (⟨rows k0_t1, outBlock (k0_pay1 v0 v2 v8 v10) (arg2.view.read (Elt F) X2) (arg3.view.read (Elt F) X3) (arg4.view.read (Elt F) X4) (arg5.view.read (Elt F) X5) (arg6.view.read (Elt F) X6) (arg11.view.read (Elt F) X11) k0_t1⟩ :: List.nil))
            ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))) -∗ K PUnit.unit)) : sProp 𝕄)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v8 v10 (iota .tc S256x128 32 [1] iota_S256x128_d1_w32) k0_t1 PUnit.unit) K := by
  unfold k0_t1_body
  iintro ⟨H2, H3, H4, H5, H6, H11, H12, H13, H14, H15, H16, Hk⟩
  rw [wp_bind]
  iapply run_part5 c E i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t1 X2
  isplitl [H2]; · iexact H2
  isplitl [H13]; · iexact H13
  isplitl [H14]; · iexact H14
  isplitl [H15]; · iexact H15
  isplitl [H16]; · iexact H16
  iintro %r ⟨H2, ⟨%f13, H13, %h13⟩, HS⟩
  obtain ⟨arg17, v23, v52⟩ := r
  dsimp only
  rw [wp_bind]
  iapply run_part6 c E i arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay1 v0 v2 v8 v10) k0_t1 arg17 v52 X3 X4 X6 X11 f13
  isplitl [H3]; · iexact H3
  isplitl [H4]; · iexact H4
  isplitl [H6]; · iexact H6
  isplitl [H11]; · iexact H11
  isplitl [H13]; · iexact H13
  isplitl [HS]; · iexact HS
  iintro ⟨H3, H4, H6, H11, H13, H14, H15, H16⟩
  sl_exec
  sl_step
  iapply Hk
  isplitl [H2]; · iexact H2
  isplitl [H3]; · iexact H3
  isplitl [H4]; · iexact H4
  isplitl [H5]; · iexact H5
  isplitl [H6]; · iexact H6
  isplitl [H11]; · iexact H11
  isplitl [H12]
  · rw [h13]; iexact H12
  isplitl [H13]; · iexists _; iexact H13
  isplitl [H14]; · iexact H14
  isplitl [H15]; · iexact H15
  iexact H16

/-- The loop over the query blocks: the rows of the blocks done hold what they should. -/
@[instance_reducible] def queriesLoop (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x3x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S512x128 .bf16) (harg13 : arg13.IsWhole) (arg14 : Memref sig .tc .vmem S2x256x1 .f32) (harg14 : arg14.IsWhole) (arg15 : Memref sig .tc .vmem S2x256x1 .f32) (harg15 : arg15.IsWhole) (arg16 : Memref sig .tc .vmem S2x256x128 .f32) (harg16 : arg16.IsWhole) (v0 v2 v8 v10 : Vec F S1x64 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X11 : BufTy.Contents (Elt F) arg11.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v8 v10 (iota .tc S256x128 32 [1] iota_S256x128_d1_w32) where
  inv k _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} X11)
    ∗ (∃ f12, (arg12.view.loc (c : Thread nD τ) ↦[arg12.view.set]{fullShare} f12) ∗ ⌜∀ t : Fin k0_t1_loop.trips, t.val < k → arg12.view.readAt (Elt F) (rows t).toLoadRect f12
        = outBlock (k0_pay1 v0 v2 v8 v10) (arg2.view.read (Elt F) X2) (arg3.view.read (Elt F) X3) (arg4.view.read (Elt F) X4) (arg5.view.read (Elt F) X5) (arg6.view.read (Elt F) X6) (arg11.view.read (Elt F) X11) t⌝)
    ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16)))
  step k _ := by
    iintro ⟨H2, H3, H4, H5, H6, H11, ⟨%f12, H12, %h⟩, H13, H14, H15, H16⟩
    iapply run_queries c E i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v8 v10 k X2 X3 X4 X5 X6 X11 f12
    isplitl [H2]; · iexact H2
    isplitl [H3]; · iexact H3
    isplitl [H4]; · iexact H4
    isplitl [H5]; · iexact H5
    isplitl [H6]; · iexact H6
    isplitl [H11]; · iexact H11
    isplitl [H12]; · iexact H12
    isplitl [H13]; · iexact H13
    isplitl [H14]; · iexact H14
    isplitl [H15]; · iexact H15
    isplitl [H16]; · iexact H16
    iintro ⟨H2, H3, H4, H5, H6, H11, H12, H13, H14, H15, H16⟩
    isplitl [H2]; · iexact H2
    isplitl [H3]; · iexact H3
    isplitl [H4]; · iexact H4
    isplitl [H5]; · iexact H5
    isplitl [H6]; · iexact H6
    isplitl [H11]; · iexact H11
    isplitl [H12]
    · iexists _; isplitl [H12]; · iexact H12
      ipureintro
      intro t ht
      by_cases e : k = t
      · subst e; exact read_hit _ _ _ _ _
      · rw [read_miss _ _ _ _ _ _ (rows_apart k t e), View.writes_nil]
        exact h t (by have : t.val ≠ k.val := fun h' => e (Fin.ext h'.symm); omega)
    isplitl [H13]; · iexact H13
    isplitl [H14]; · iexact H14
    isplitl [H15]; · iexact H15
    iexact H16

end Cert.KernelIdeal.Att
-- ==== Proof.AttRunIdeal.lean ====
/- The attention's body, run at every point of its grid. A point holds one head of one sequence; the body goes over
   its eight blocks of queries and, for each, over the blocks of keys up to that of the queries, carrying for the two
   halves of the head the running maximum, the running sum and the running weighted values. -/
module

public import proofs.«01_k».proof.Proof.AttBodyIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.TableIdle
public import Idealize.ShloMosaic.Lib.Pipeline.ValueKit
public import Idealize.ShloMosaic.Lib.VecWindow
public import proofs.«01_k».proof.Defs

@[expose] public section

-- membership in a rectangle of production extents (`View.cover_of_tiled`) is checked one coordinate
-- after another along the long axes
set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The query block a row lies in, and its place there. -/
def blockOf (y : S2048x128.Idx) : Fin k0_t1_loop.trips := ⟨(y 0).val / 256, by have h : (y 0).val < 2048 := (y 0).isLt; show _ < 8; omega⟩
def withinBlock (y : S2048x128.Idx) : S256x128.Idx := ValueIdx.ix2 (⟨(y 0).val % 256, Nat.mod_lt _ (by decide)⟩ : Fin 256) (y 1 : Fin 128)

/-- What a point writes: all its query blocks' rows. -/
def outAll (lam : FVec F S1x1 .f32) (x2 x3 x4 x5 : Vec F S2048x128 .bf16) (x6 : Vec F S1x3x256x256 .f32) (x11 : Vec F S1x128 .f32) : Vec F S2048x128 .bf16 :=
  fun y => outBlock lam x2 x3 x4 x5 x6 x11 (blockOf y) (withinBlock y)

theorem off1_eq : ∀ t : Fin k0_t1_loop.trips, k0_off1 t = ![256 * t.val, 0] := by decide +kernel

/-- Rows are written by their query block and by no other. -/
theorem outAll_of_rows (lam : FVec F S1x1 .f32) (x2 x3 x4 x5 : Vec F S2048x128 .bf16) (x6 : Vec F S1x3x256x256 .f32) (x11 : Vec F S1x128 .f32) (g : Vec F S2048x128 .bf16)
    (h : ∀ t : Fin k0_t1_loop.trips, View.ld (Val := Elt F) g (rows t) = outBlock lam x2 x3 x4 x5 x6 x11 t) : g = outAll lam x2 x3 x4 x5 x6 x11 := by
  funext y
  unfold outAll
  rw [← h (blockOf y)]
  show g y = g ((rows (blockOf y)).toLoadRect.idx (withinBlock y))
  congr 1
  funext a
  apply Fin.ext
  have e := off1_eq (blockOf y)
  fin_cases a
  · show (y 0).val = k0_off1 (blockOf y) 0 + 1 * ((y 0).val % 256)
    rw [e]
    show (y 0).val = 256 * ((y 0).val / 256) + 1 * ((y 0).val % 256)
    omega
  · show (y 1).val = k0_off1 (blockOf y) 1 + 1 * (y 1).val
    rw [e]
    show (y 1).val = 0 + 1 * (y 1).val
    omega

/-- All blocks of queries, one after another. -/
theorem run_all_queries (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x3x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S512x128 .bf16) (harg13 : arg13.IsWhole) (arg14 : Memref sig .tc .vmem S2x256x1 .f32) (harg14 : arg14.IsWhole) (arg15 : Memref sig .tc .vmem S2x256x1 .f32) (harg15 : arg15.IsWhole) (arg16 : Memref sig .tc .vmem S2x256x128 .f32) (harg16 : arg16.IsWhole) (v0 v2 v8 v10 : Vec F S1x64 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X11 : BufTy.Contents (Elt F) arg11.view.ty)
    (K : PUnit → sProp 𝕄) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} X11) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))
      ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} X11)
            ∗ (∃ f12, (arg12.view.loc (c : Thread nD τ) ↦[arg12.view.set]{fullShare} f12) ∗ ⌜arg12.view.read (Elt F) f12 = outAll (k0_pay1 v0 v2 v8 v10) (arg2.view.read (Elt F) X2) (arg3.view.read (Elt F) X3) (arg4.view.read (Elt F) X4) (arg5.view.read (Elt F) X5) (arg6.view.read (Elt F) X6) (arg11.view.read (Elt F) X11)⌝)
            ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))) -∗ K PUnit.unit)) : sProp 𝕄)
      ⊢ wp frame (wpE (defs₀ (F := F)) Variants.none (c : Thread nD τ) none) E (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v8 v10 (iota .tc S256x128 32 [1] iota_S256x128_d1_w32))) K := by
  have hL : (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} X11)
    ∗ (∃ f12, (arg12.view.loc (c : Thread nD τ) ↦[arg12.view.set]{fullShare} f12) ∗ ⌜∀ t : Fin k0_t1_loop.trips, t.val < 0 → arg12.view.readAt (Elt F) (rows t).toLoadRect f12
        = outBlock (k0_pay1 v0 v2 v8 v10) (arg2.view.read (Elt F) X2) (arg3.view.read (Elt F) X3) (arg4.view.read (Elt F) X4) (arg5.view.read (Elt F) X5) (arg6.view.read (Elt F) X6) (arg11.view.read (Elt F) X11) t⌝)
    ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))) : sProp 𝕄)
      ⊢ iprop((∀ acc, iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg11.view.loc (c : Thread nD τ) ↦[arg11.view.set]{fullShare} X11)
    ∗ (∃ f12, (arg12.view.loc (c : Thread nD τ) ↦[arg12.view.set]{fullShare} f12) ∗ ⌜∀ t : Fin k0_t1_loop.trips, t.val < k0_t1_loop.trips → arg12.view.readAt (Elt F) (rows t).toLoadRect f12
        = outBlock (k0_pay1 v0 v2 v8 v10) (arg2.view.read (Elt F) X2) (arg3.view.read (Elt F) X3) (arg4.view.read (Elt F) X4) (arg5.view.read (Elt F) X5) (arg6.view.read (Elt F) X6) (arg11.view.read (Elt F) X11) t⌝)
    ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16))) -∗ K acc) -∗ wp frame (wpE (defs₀ (F := F)) Variants.none (c : Thread nD τ) none) E (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v8 v10 (iota .tc S256x128 32 [1] iota_S256x128_d1_w32))) K) :=
    exec_loop_last frame (wpE (defs₀ (F := F)) Variants.none (c : Thread nD τ) none) E _ _ _ k0_t1_ok () _
      (queriesLoop c E i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v2 v8 v10 X2 X3 X4 X5 X6 X11) (Q := K)
  iintro ⟨H2, H3, H4, H5, H6, H11, ⟨%f12, H12⟩, H13, H14, H15, H16, Hk⟩
  iapply hL $$ [H2 H3 H4 H5 H6 H11 H12 H13 H14 H15 H16]
  · isplitl [H2]; · iexact H2
    isplitl [H3]; · iexact H3
    isplitl [H4]; · iexact H4
    isplitl [H5]; · iexact H5
    isplitl [H6]; · iexact H6
    isplitl [H11]; · iexact H11
    isplitl [H12]
    · iexists f12; isplitl [H12]; · iexact H12
      ipureintro; intro t h; exact absurd h (Nat.not_lt_zero _)
    isplitl [H13]; · iexact H13
    isplitl [H14]; · iexact H14
    isplitl [H15]; · iexact H15
    iexact H16
  · iintro %acc ⟨H2, H3, H4, H5, H6, H11, ⟨%g12, H12, %h⟩, H13, H14, H15, H16⟩
    iapply Hk
    isplitl [H2]; · iexact H2
    isplitl [H3]; · iexact H3
    isplitl [H4]; · iexact H4
    isplitl [H5]; · iexact H5
    isplitl [H6]; · iexact H6
    isplitl [H11]; · iexact H11
    isplitl [H12]
    · iexists g12; isplitl [H12]; · iexact H12
      ipureintro; exact outAll_of_rows _ _ _ _ _ _ _ _ fun t => h t t.isLt
    isplitl [H13]; · iexact H13
    isplitl [H14]; · iexact H14
    isplitl [H15]; · iexact H15
    iexact H16
set_option maxHeartbeats 1000000 in
/-- The body at a point: the whole block of the output is written, the scratch is left with something. -/
theorem run_body (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x3x256x256 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S2048x128 .bf16) (harg12 : arg12.IsWhole) (arg13 : Memref sig .tc .vmem S512x128 .bf16) (harg13 : arg13.IsWhole) (arg14 : Memref sig .tc .vmem S2x256x1 .f32) (harg14 : arg14.IsWhole) (arg15 : Memref sig .tc .vmem S2x256x1 .f32) (harg15 : arg15.IsWhole) (arg16 : Memref sig .tc .vmem S2x256x128 .f32) (harg16 : arg16.IsWhole)
    (x2 : Vec F S2048x128 .bf16) (x3 : Vec F S2048x128 .bf16) (x4 : Vec F S2048x128 .bf16) (x5 : Vec F S2048x128 .bf16) (x6 : Vec F S1x3x256x256 .f32) (x7 : Vec F S1x64 .f32) (x8 : Vec F S1x64 .f32) (x9 : Vec F S1x64 .f32) (x10 : Vec F S1x64 .f32) (x11 : Vec F S1x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (outAll (k0_pay1 x7 x8 x9 x10) x2 x3 x4 x5 x6 x11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none c none) E (cc0_attention_a i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attention_a_eq_skeleton]; unfold cc0_attention_a_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
  subst hf2 hf3 hf4 hf5 hf6 hf7 hf8 hf9 hf10 hf11
  have e7 : arg7.view.readAt (Elt F) (Rect.unit (s := S1x64) ![0, 0] S1x64.size inb_S1x64_S1x64_0_0).toLoadRect f7 = arg7.view.read (Elt F) f7 := by
    simp (disch := decide) only [View.readAt_eq_ld, View.ld_unit_lit']
  have e8 : arg8.view.readAt (Elt F) (Rect.unit (s := S1x64) ![0, 0] S1x64.size inb_S1x64_S1x64_0_0).toLoadRect f8 = arg8.view.read (Elt F) f8 := by
    simp (disch := decide) only [View.readAt_eq_ld, View.ld_unit_lit']
  have e9 : arg9.view.readAt (Elt F) (Rect.unit (s := S1x64) ![0, 0] S1x64.size inb_S1x64_S1x64_0_0).toLoadRect f9 = arg9.view.read (Elt F) f9 := by
    simp (disch := decide) only [View.readAt_eq_ld, View.ld_unit_lit']
  have e10 : arg10.view.readAt (Elt F) (Rect.unit (s := S1x64) ![0, 0] S1x64.size inb_S1x64_S1x64_0_0).toLoadRect f10 = arg10.view.read (Elt F) f10 := by
    simp (disch := decide) only [View.readAt_eq_ld, View.ld_unit_lit']
  rw [wp_bind]
  sl_exec
  delta run_body.sl.r run_body.sl.v19
  rw [wp_bind]
  iapply run_all_queries c E i arg2 harg2 arg3 harg3 arg4 harg4 arg5 harg5 arg6 harg6 arg7 harg7 arg8 harg8 arg9 harg9 arg10 harg10 arg11 harg11 arg12 harg12 arg13 harg13 arg14 harg14 arg15 harg15 arg16 harg16 (arg7.view.read (Elt F) f7) (arg8.view.read (Elt F) f8) (arg9.view.read (Elt F) f9) (arg10.view.read (Elt F) f10) f2 f3 f4 f5 f6 f11
  isplitl [H2]; · iexact H2
  isplitl [H3]; · iexact H3
  isplitl [H4]; · iexact H4
  isplitl [H5]; · iexact H5
  isplitl [H6]; · iexact H6
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  iintro ⟨H2, H3, H4, H5, H6, H11, ⟨%g12, H12, %h12⟩, ⟨%g13, H13⟩, ⟨%g14, H14⟩, ⟨%g15, H15⟩, ⟨%g16, H16⟩⟩
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists g12; isplitr; · ipureintro; exact h12
    iexact H12
  isplitl [H13]
  · iexists _; iexists g13; isplitr; · ipureintro; rfl
    iexact H13
  isplitl [H14]
  · iexists _; iexists g14; isplitr; · ipureintro; rfl
    iexact H14
  isplitl [H15]
  · iexists _; iexists g15; isplitr; · ipureintro; rfl
    iexact H15
  iexists _; iexists g16; isplitr; · ipureintro; rfl
  iexact H16

variable (m : (ℓ : Loc nD τ sig) → Buf (Elt F) ℓ) (ρ : Dev nD → PrngReg)

/-! ## The pipeline's proof data -/

/-- The output of point `t`: what the body computes from the point's blocks. -/
def outAt (c : Dev nD) (t : Fin cfg0.N) : Vec F S2048x128 .bf16 :=
  outAll (k0_pay1 (iblk m c 5 t) (iblk m c 6 t) (iblk m c 7 t) (iblk m c 8 t)) (iblk m c 0 t) (iblk m c 1 t) (iblk m c 2 t) (iblk m c 3 t) (iblk m c 4 t) (iblk m c 9 t)

/-- The proof data on core `c`: the arrays as the region finds them; after the body each input's buffer at its block
    and the output's at what the body computes from the blocks; the scratch with anything between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q := Pipeline.shareOf spec0
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at point `t`. -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it leaves. -/
def bodyPost (c : Dev nD) (t : Fin cfg0.N) : sProp 𝕄 :=
  iprop(Pipeline.ΦA spec0 c ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Pipeline.ΦA
  rw [scopedRest0_eq]
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10]
  simp only [← owns_whole]
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_body c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S0]; · iexists _; iexact S0
  isplitl [S1]; · iexists _; iexact S1
  isplitl [S2]; · iexists _; iexact S2
  isplitl [S3]; · iexists _; iexact S3
  iintro ⟨H0, H1, H2, H3, H4, H5, H6, H7, H8, H9, H10, ⟨%r0, S0⟩, ⟨%r1, S1⟩, ⟨%r2, S2⟩, ⟨%r3, S3⟩⟩
  isplitl [S0 S1 S2 S3 Hr]
  · isplitl [S0 S1 S2 S3]
    · isplitl [S0]; · iexists _; iexact S0
      isplitl [S1]; · iexists _; iexact S1
      isplitl [S2]; · iexists _; iexact S2
      iexists _; iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array of the pipeline ends at what the proof data state, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl) (hout := fun c => .rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the launch terminates, the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Att
-- ==== Proof.Consts.lean ====
/- The extended reals that a few float words denote. -/
module

public import proofs.«01_k».proof.Defs
public import Idealize.ShloMosaic.Lib.Pointwise

@[expose] public section

noncomputable section

namespace Cert.Consts

open Idealize.ShloMosaic

/-- The f32 word of one hundred and twenty-eighth. -/
theorem ofBits_inv128 : Ideal.ofBits .f32 1006632960#32 = ((1 / 128 : ℝ) : EReal) := by
  simp [Ideal.ofBits, Ideal.ieee, -EReal.coe_mul]; norm_num

/-- The f32 word of sixty-four. -/
theorem ofBits_64 : Ideal.ofBits .f32 1115684864#32 = ((64 : ℝ) : EReal) := by
  simp [Ideal.ofBits, Ideal.ieee, -EReal.coe_mul]; norm_num

/-- Twice a sum over one hundred and twenty-eight is the sum over sixty-four. -/
theorem twice_mean (S : EReal) : (S + S) * Ideal.ofBits .f32 1006632960#32 = Ideal.div S (Ideal.ofBits .f32 1115684864#32) := by
  rw [ofBits_inv128, ofBits_64, Ideal.div_coe (by norm_num)]
  induction S with
  | bot => rw [EReal.bot_add, EReal.bot_mul_coe_of_pos (by norm_num), EReal.bot_mul_coe_of_pos (by norm_num)]
  | top => rw [EReal.top_add_top, EReal.top_mul_coe_of_pos (by norm_num), EReal.top_mul_coe_of_pos (by norm_num)]
  | coe r => rw [← EReal.coe_add, ← EReal.coe_mul, ← EReal.coe_mul]; congr 1; ring

/-- A sum over one hundred and twenty-eight places of a term that repeats after sixty-four. -/
theorem sum_twice (f : Fin 64 → EReal) : (∑ k : Fin 128, f ⟨k % 64, by omega⟩) = (∑ k, f k) + ∑ k, f k := by
  rw [show (∑ k : Fin 128, f ⟨k % 64, by omega⟩) = ∑ k : Fin (64 + 64), f ⟨k % 64, by omega⟩ from rfl, Fin.sum_univ_add]
  refine congrArg₂ (· + ·) ?_ ?_
  · refine Finset.sum_congr rfl fun k _ => congrArg f (Fin.ext ?_)
    show (k : ℕ) % 64 = k
    omega
  · refine Finset.sum_congr rfl fun k _ => congrArg f (Fin.ext ?_)
    show (64 + (k : ℕ)) % 64 = k
    omega

/-- The words of one eighth. -/
theorem ofBits_eighth : Ideal.ofBits .f32 1040187392#32 = ((1 / 8 : ℝ) : EReal) := by
  simp [Ideal.ofBits, Ideal.ieee, -EReal.coe_mul]; norm_num
theorem ofBits_eighth_bf16 : Ideal.ofBits .bf16 15872#16 = ((1 / 8 : ℝ) : EReal) := by
  simp [Ideal.ofBits, Ideal.ieee, -EReal.coe_mul]; norm_num

/-- The f32 word of sixteen. -/
theorem ofBits_16 : Ideal.ofBits .f32 1098907648#32 = ((16 : ℝ) : EReal) := by
  simp [Ideal.ofBits, Ideal.ieee, -EReal.coe_mul]; norm_num

/-- The f32 word nearest the logarithm of eight. -/
theorem ofBits_log8 : Ideal.ofBits .f32 1074075026#32 = ((4360905 / 2097152 : ℝ) : EReal) := by
  simp [Ideal.ofBits, Ideal.ieee, -EReal.coe_mul]; norm_num

/-- The f32 word nearest one fifth. -/
theorem ofBits_fifth : Ideal.ofBits .f32 1045220557#32 = ((13421773 / 67108864 : ℝ) : EReal) := by
  simp [Ideal.ofBits, Ideal.ieee, -EReal.coe_mul]; norm_num

/-- The f32 word nearest minus ten to the thirty. -/
theorem ofBits_start : Ideal.ofBits .f32 4048155338#32 = ((-(13234890 * 2 ^ 76) : ℝ) : EReal) := by
  simp [Ideal.ofBits, Ideal.ieee, -EReal.coe_mul]

/-- The f32 words of the two infinities. -/
theorem ofBits_neg_inf : Ideal.ofBits .f32 4286578688#32 = ⊥ := by
  simp [Ideal.ofBits, Ideal.ieee, -EReal.coe_mul]
theorem ofBits_inf : Ideal.ofBits .f32 2139095040#32 = ⊤ := by
  simp [Ideal.ofBits, Ideal.ieee, -EReal.coe_mul]

end Cert.Consts
-- ==== Proof.AttMath.lean ====
/- The running softmax, over the extended reals. A row keeps its running maximum, its running sum of weights and its
   running weighted sum of values, the last two scaled by the exponential of minus the maximum. -/
module

public import proofs.«01_k».proof.Defs
public import proofs.«01_k».proof.Proof.Consts
public import Idealize.ShloMosaic.Lib.Pointwise

@[expose] public section

noncomputable section

namespace Cert.AttMath

open Idealize.ShloMosaic

/-- A logit's weight before any scaling: its exponential, nothing for a masked logit. -/
def wt (x : EReal) : ℝ := (Ideal.exp x).toReal

theorem wt_bot : wt ⊥ = 0 := by rw [wt, show Ideal.exp ⊥ = 0 from rfl]; rfl
theorem wt_coe (r : ℝ) : wt (r : EReal) = Real.exp r := by rw [wt, show Ideal.exp (r : EReal) = (Real.exp r : EReal) from rfl, EReal.toReal_coe]
theorem wt_nonneg (x : EReal) : 0 ≤ wt x := by
  induction x with
  | bot => rw [wt_bot]
  | top => rw [wt, show Ideal.exp ⊤ = ⊤ from rfl]; simp
  | coe r => rw [wt_coe]; exact (Real.exp_pos r).le

/-- The exponential of a logit less a maximum is its weight scaled. -/
theorem exp_sub (x : EReal) (hx : x ≠ ⊤) (μ : ℝ) : Ideal.exp (x - (μ : EReal)) = ((wt x * Real.exp (-μ) : ℝ) : EReal) := by
  induction x with
  | bot => rw [wt_bot, EReal.bot_sub, show Ideal.exp ⊥ = 0 from rfl]; simp
  | top => exact absurd rfl hx
  | coe r => rw [← EReal.coe_sub, wt_coe, ← Real.exp_add]; rfl

/-- A finite sum of reals, as an extended real. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A row of the running values: `L` the weights so far, `A` the weighted values so far. -/
def Row (m l a : EReal) (L A : ℝ) : Prop :=
  ∃ μ : ℝ, m = (μ : EReal) ∧ l = ((Real.exp (-μ) * L : ℝ) : EReal) ∧ a = ((Real.exp (-μ) * A : ℝ) : EReal)

/-- Before any key. -/
theorem Row.zero (μ : ℝ) : Row (μ : EReal) 0 0 0 0 := ⟨μ, rfl, by simp, by simp⟩

/-- One block of keys. -/
theorem Row.next {ι : Type*} [Fintype ι] {m l a : EReal} {L A : ℝ} (h : Row m l a L A) (X : EReal) (hX : X ≠ ⊤)
    (x : ι → EReal) (hx : ∀ i, x i ≠ ⊤) (v : ι → ℝ) :
    Row (max m X) (Ideal.exp (m - max m X) * l + ∑ i, Ideal.exp (x i - max m X))
      (Ideal.exp (m - max m X) * a + ∑ i, Ideal.exp (x i - max m X) * ((v i : ℝ) : EReal))
      (L + ∑ i, wt (x i)) (A + ∑ i, wt (x i) * v i) := by
  obtain ⟨μ, rfl, rfl, rfl⟩ := h
  obtain ⟨ν, hν⟩ : ∃ ν : ℝ, max (μ : EReal) X = (ν : EReal) := by
    induction X with
    | bot => exact ⟨μ, max_eq_left bot_le⟩
    | top => exact absurd rfl hX
    | coe r =>
      rcases le_total μ r with h | h
      · exact ⟨r, max_eq_right (EReal.coe_le_coe_iff.mpr h)⟩
      · exact ⟨μ, max_eq_left (EReal.coe_le_coe_iff.mpr h)⟩
  rw [hν]
  have hs : ∀ i, Ideal.exp (x i - (ν : EReal)) = ((wt (x i) * Real.exp (-ν) : ℝ) : EReal) := fun i => exp_sub _ (hx i) ν
  have he : Ideal.exp ((μ : EReal) - (ν : EReal)) = ((Real.exp μ * Real.exp (-ν) : ℝ) : EReal) := by
    rw [exp_sub _ (EReal.coe_ne_top _), wt_coe]
  have hc : Real.exp μ * Real.exp (-μ) = 1 := by rw [← Real.exp_add]; simp
  refine ⟨ν, rfl, ?_, ?_⟩
  · simp only [hs, he]
    rw [sum_coe, ← EReal.coe_mul, ← EReal.coe_add, ← Finset.sum_mul]
    congr 1
    linear_combination (Real.exp (-ν) * L) * hc
  · simp only [hs, he, ← EReal.coe_mul]
    rw [sum_coe, ← EReal.coe_add]
    congr 1
    have : ∑ i, wt (x i) * Real.exp (-ν) * v i = Real.exp (-ν) * ∑ i, wt (x i) * v i := by
      rw [Finset.mul_sum]; exact Finset.sum_congr rfl fun i _ => by ring
    rw [this]
    linear_combination (Real.exp (-ν) * A) * hc

/-- The row's weighted mean. -/
theorem Row.mean {m l a : EReal} {L A : ℝ} (h : Row m l a L A) (hL : L ≠ 0) : Ideal.div a l = ((A / L : ℝ) : EReal) := by
  obtain ⟨μ, rfl, rfl, rfl⟩ := h
  have he := Real.exp_ne_zero (-μ)
  rw [Ideal.div_coe (mul_ne_zero he hL), ← EReal.coe_mul]
  congr 1
  field_simp

/-- The same over the whole row at once: each exponential less the maximum `M`, over their sum. -/
theorem soft {ι : Type*} [Fintype ι] (x : ι → EReal) (hx : ∀ i, x i ≠ ⊤) (M : ℝ) (hL : ∑ i, wt (x i) ≠ 0) (i : ι) :
    Ideal.div (Ideal.exp (x i - (M : EReal))) (∑ j, Ideal.exp (x j - (M : EReal))) = ((wt (x i) / ∑ j, wt (x j) : ℝ) : EReal) := by
  have hs : ∀ i, Ideal.exp (x i - (M : EReal)) = ((wt (x i) * Real.exp (-M) : ℝ) : EReal) := fun i => exp_sub _ (hx i) M
  have he := Real.exp_ne_zero (-M)
  simp only [hs]
  rw [sum_coe, ← Finset.sum_mul, Ideal.div_coe (mul_ne_zero hL he), ← EReal.coe_mul]
  congr 1
  field_simp

end Cert.AttMath
-- ==== Proof.AttBias.lean ====
/- The biases. A distance between a query and a key picks a row of the bias table; every distance from 257 on picks the
   last one, and a key after its query is masked. -/
module

public import proofs.«01_k».proof.Proof.AttMath
public import Idealize.ShloMosaic.Lib.Pointwise

@[expose] public section

noncomputable section

namespace Cert.AttBias

open Idealize.ShloMosaic

/-- A distance, not below nothing. -/
def near (n : BitVec 32) : BitVec 32 := IntOp.maxsi n 0#32

/-- A distance's bucket. -/
def bkt (n : BitVec 32) : BitVec 32 :=
  Scalar.select (IntOp.cmpi .slt (near n) 16#32) (near n)
    (IntOp.minsi (IntOp.addi 16#32 (FloatOps.fptosi (F := Ideal) (φ := .f32) 32
      (Ideal.div (Ideal.log (Ideal.div (FloatOps.sitofp (F := Ideal) .f32 (IntOp.maxsi (near n) 1#32)) (Ideal.ofBits .f32 1098907648#32))) (Ideal.ofBits .f32 1074075026#32) * Ideal.ofBits .f32 1098907648#32))) 31#32)

/-- The word of the table's row. -/
def rowOf (n : BitVec 32) : BitVec 32 := Scalar.select (IntOp.cmpi .slt (bkt n) 0#32) (IntOp.addi (bkt n) 32#32) (bkt n)

/-- The table's row. -/
def rowNo (n : BitVec 32) : Fin 32 := ⟨min (rowOf n).toInt.toNat (32 - 1), by omega⟩

theorem toInt_ofNat (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem sub_ofNat (n k : ℕ) (h : k ≤ n) (hn : n < 2 ^ 31) : BitVec.ofNat 32 n - BitVec.ofNat 32 k = BitVec.ofNat 32 (n - k) := by
  apply BitVec.eq_of_toNat_eq
  rw [BitVec.toNat_sub, BitVec.toNat_ofNat, BitVec.toNat_ofNat, BitVec.toNat_ofNat]
  omega

theorem sge_sub (n k : ℕ) (hn : n < 2 ^ 31) (hk : k < 2 ^ 31) : IntOp.cmpi .sge (BitVec.ofNat 32 n - BitVec.ofNat 32 k) 0#32 = if k ≤ n then 1#1 else 0#1 := by
  have e : (BitVec.ofNat 32 n - BitVec.ofNat 32 k).toInt = (n : ℤ) - k := by
    rw [BitVec.toInt_sub, toInt_ofNat n hn, toInt_ofNat k hk, Int.bmod_eq_of_le (by omega) (by omega)]
  show BitVec.ofBool (BitVec.sle 0#32 _) = _
  rw [BitVec.sle_eq_decide, e, show (0#32 : BitVec 32).toInt = 0 from rfl]
  split_ifs with h
  · rw [decide_eq_true (by omega)]; rfl
  · rw [decide_eq_false (by omega)]; rfl

theorem slt_ofNat (n k : ℕ) (hn : n < 2 ^ 31) (hk : k < 2 ^ 31) : BitVec.slt (BitVec.ofNat 32 n) (BitVec.ofNat 32 k) = decide (n < k) := by
  rw [BitVec.slt_eq_decide, toInt_ofNat n hn, toInt_ofNat k hk]
  exact decide_eq_decide.mpr (by omega)

theorem min_31 : ∀ z : Fin 101, 15 ≤ z.val → IntOp.minsi (IntOp.addi 16#32 (BitVec.ofInt 32 (z.val : ℤ))) 31#32 = 31#32 := by decide +kernel

/-- The logarithmic bucket of a far distance is far enough. -/
theorem log_far (n : ℕ) (h : 257 ≤ n) (h' : n < 2048) :
    (15 : ℝ) ≤ Real.log ((n : ℝ) * (1 / 16)) * (1 / (4360905 / 2097152)) * 16 ∧ Real.log ((n : ℝ) * (1 / 16)) * (1 / (4360905 / 2097152)) * 16 < 101 := by
  have hn : (257 : ℝ) ≤ n := by exact_mod_cast h
  have hn' : (n : ℝ) ≤ 2048 := by exact_mod_cast h'.le
  have l1 : Real.log 16 ≤ Real.log ((n : ℝ) * (1 / 16)) := Real.log_le_log (by norm_num) (by linarith)
  have l2 : Real.log ((n : ℝ) * (1 / 16)) ≤ Real.log 128 := Real.log_le_log (by linarith) (by linarith)
  have e1 : Real.log 16 = 4 * Real.log 2 := by rw [show (16 : ℝ) = 2 ^ 4 by norm_num, Real.log_pow]; norm_num
  have e2 : Real.log 128 = 7 * Real.log 2 := by rw [show (128 : ℝ) = 2 ^ 7 by norm_num, Real.log_pow]; norm_num
  have g1 := Real.one_sub_inv_le_log_of_pos (show (0 : ℝ) < 2 by norm_num)
  have g2 := Real.log_le_sub_one_of_pos (show (0 : ℝ) < 2 by norm_num)
  constructor
  · have : (2 : ℝ) ≤ Real.log ((n : ℝ) * (1 / 16)) := by linarith
    linarith
  · have : Real.log ((n : ℝ) * (1 / 16)) ≤ 7 := by linarith
    linarith

theorem rowOf_far (n : ℕ) (h : 257 ≤ n) (h' : n < 2048) : rowOf (BitVec.ofNat 32 n) = 31#32 := by
  have e0 : near (BitVec.ofNat 32 n) = BitVec.ofNat 32 n := by
    show (if BitVec.slt (BitVec.ofNat 32 0) (BitVec.ofNat 32 n) then _ else _) = _
    rw [slt_ofNat 0 n (by norm_num) (by omega), decide_eq_true (by omega), if_pos rfl]
  have e1 : IntOp.maxsi (BitVec.ofNat 32 n) 1#32 = BitVec.ofNat 32 n := by
    show (if BitVec.slt (BitVec.ofNat 32 1) (BitVec.ofNat 32 n) then _ else _) = _
    rw [slt_ofNat 1 n (by norm_num) (by omega), decide_eq_true (by omega), if_pos rfl]
  have e2 : IntOp.cmpi .slt (BitVec.ofNat 32 n) 16#32 = 0#1 := by
    show BitVec.ofBool (BitVec.slt (BitVec.ofNat 32 n) (BitVec.ofNat 32 16)) = _
    rw [slt_ofNat n 16 (by omega) (by norm_num), decide_eq_false (by omega)]; rfl
  have e3 : (FloatOps.sitofp (F := Ideal) .f32 (BitVec.ofNat 32 n)) = ((n : ℝ) : EReal) := by
    show (((BitVec.ofNat 32 n).toInt : ℝ) : EReal) = _
    rw [toInt_ofNat n (by omega)]; norm_num
  obtain ⟨b1, b2⟩ := log_far n h h'
  have hb : bkt (BitVec.ofNat 32 n) = 31#32 := by
    unfold bkt
    rw [e0, e1, e2, e3, Cert.Consts.ofBits_16, Cert.Consts.ofBits_log8, Ideal.div_coe (y := (16 : ℝ)) (by norm_num), ← EReal.coe_mul, Ideal.log_coe,
      if_neg (by have : (257 : ℝ) ≤ n := by exact_mod_cast h
                 linarith), Ideal.div_coe (by norm_num), ← EReal.coe_mul, ← EReal.coe_mul]
    generalize Real.log ((n : ℝ) * (1 / 16)) * (1 / (4360905 / 2097152)) * 16 = x at b1 b2
    have f1 : (15 : ℤ) ≤ ⌊x⌋ := Int.le_floor.mpr (by exact_mod_cast b1)
    have f2 : ⌊x⌋ < 101 := Int.floor_lt.mpr (by exact_mod_cast b2)
    have ef : FloatOps.fptosi (F := Ideal) (φ := .f32) 32 ((x : ℝ) : EReal) = BitVec.ofInt 32 ⌊x⌋ := by
      show BitVec.ofInt 32 (max (-(2 ^ 31)) (min (2 ^ 31 - 1) (if 0 ≤ x then ⌊x⌋ else ⌈x⌉))) = _
      rw [if_pos (by linarith), min_eq_right (by omega), max_eq_right (by omega)]
    obtain ⟨z, hz⟩ : ∃ z : ℕ, ⌊x⌋ = z := ⟨⌊x⌋.toNat, by omega⟩
    rw [ef, hz]
    exact min_31 ⟨z, by omega⟩ (by show 15 ≤ z; omega)
  unfold rowOf
  rw [hb]
  decide

theorem rowNo_far (n k : ℕ) (h : 257 ≤ n) (h' : n < 2048) (g : 257 ≤ k) (g' : k < 2048) : rowNo (BitVec.ofNat 32 n) = rowNo (BitVec.ofNat 32 k) := by
  unfold rowNo
  simp only [rowOf_far n h h', rowOf_far k g g']

/-- The bias of query `i` against key `s`, out of a column of the table: nothing finite when the key comes after. -/
def bias (T : Fin 32 → EReal) (i s : ℕ) : EReal := if s ≤ i then T (rowNo (BitVec.ofNat 32 i - BitVec.ofNat 32 s)) else ⊥

theorem bias_ne_top (T : Fin 32 → EReal) (h : ∀ a, T a ≠ ⊤) (i s : ℕ) : bias T i s ≠ ⊤ := by
  unfold bias
  split_ifs
  · exact h _
  · exact bot_ne_top

/-- A tile's entry is the bias of the distance it stands for. -/
theorem tile_eq (T : Fin 32 → EReal) (t k r s : ℕ) (ht : t < 8) (hk : k ≤ t) (hr : r < 256) (hs : s < 256) :
    Scalar.select (IntOp.cmpi .sge (BitVec.ofNat 32 (256 * min (t - k) 2 + r) - BitVec.ofNat 32 s) 0#32) (T (rowNo (BitVec.ofNat 32 (256 * min (t - k) 2 + r) - BitVec.ofNat 32 s))) ⊥
      = bias T (256 * t + r) (256 * k + s) := by
  unfold bias
  rw [sge_sub _ _ (by omega) (by omega)]
  by_cases h : 256 * k + s ≤ 256 * t + r
  · rw [if_pos h, if_pos (by omega), sub_ofNat _ _ (by omega) (by omega), sub_ofNat _ _ h (by omega)]
    show T _ = T _
    by_cases h2 : t - k ≤ 1
    · rw [min_eq_left (by omega)]
      congr 3
      omega
    · rw [min_eq_right (by omega)]
      rw [rowNo_far (256 * 2 + r - s) (256 * t + r - (256 * k + s)) (by omega) (by omega) (by omega) (by omega)]
  · rw [if_neg h, if_neg (by omega)]
    rfl

end Cert.AttBias
-- ==== Proof.AttHost.lean ====
/- What the attention's launch finds in memory: the blocks of the projection, the lambda vectors, the gain, and the tiles of
   biases, one per distance between a block of queries and a block of keys. -/
module

public import proofs.«01_k».proof.Proof.AttRunIdeal
public import proofs.«01_k».proof.Proof.AttBias
public import Idealize.ShloMosaic.Lib.Pointwise
public import Idealize.ShloMosaic.Lib.Pipeline.ValueKit

@[expose] public section

set_option maxRecDepth 16384

noncomputable section

namespace Cert.KernelIdeal.AttHost

open Idealize.ShloMosaic Idealize.ShloMosaic.TcCoe
open Cert.KernelIdeal Cert.KernelIdeal.Gen Cert.KernelIdeal.Att

/-- The distances of one tile: the query's row number, `c` more, less the key's. -/
def tileDist (c : BitVec 32) : IVec S256x256 32 :=
  subi (broadcastInDim S256x256 ![0, 1] bcast_S256x1_S256x256_0_1 (addi (broadcastInDim S256x1 ![] bcast_S_S256x1 (constantI S_ 32 c)) (broadcastInDim S256x1 ![0] bcast_S256_S256x1_0 (iotaInDim S256 32 0))))
    (broadcastInDim S256x256 ![0, 1] bcast_S1x256_S256x256_0_1 (broadcastInDim S1x256 ![1] bcast_S256_S1x256_1 (iotaInDim S256 32 0)))

/-- The distances of the three tiles. -/
def dist : IVec S3x256x256 32 :=
  concatenate S3x256x256 0 [⟨S1x256x256, broadcastInDim S1x256x256 ![1, 2] bcast_S256x256_S1x256x256_1_2 (tileDist 0#32)⟩, ⟨S1x256x256, broadcastInDim S1x256x256 ![1, 2] bcast_S256x256_S1x256x256_1_2 (tileDist 256#32)⟩,
    ⟨S1x256x256, broadcastInDim S1x256x256 ![1, 2] bcast_S256x256_S1x256x256_1_2 (tileDist 512#32)⟩] concatenates_S1x256x256_S1x256x256_S1x256x256_S3x256x256_d0

/-- The number `c` at every place of the tiles. -/
def all (c : BitVec 32) : IVec S3x256x256 32 := broadcastInDim S3x256x256 ![] bcast_S_S3x256x256 (constantI S_ 32 c)
def allf (c : BitVec 32) : FVec Ideal S3x256x256 .f32 := broadcastInDim S3x256x256 ![] bcast_S_S3x256x256 (constant S_ .f32 c)

/-- The distances, none below nothing. -/
def near : IVec S3x256x256 32 := maxsi dist (all 0#32)

/-- The buckets of the distances. -/
def bucket : IVec S3x256x256 32 :=
  select (cmpi .slt near (all 16#32)) near
    (minsi (addi (all 16#32) (fptosi 32 (mulf (Host.divf (Host.log (Host.divf (sitofp .f32 (maxsi near (all 1#32))) (allf 0x41800000#32))) (allf 0x40051592#32)) (allf 0x41800000#32)))) (all 31#32))

/-- The rows of the bias table that the tiles take. -/
def row : IVec S3x256x256 32 := select (cmpi .slt bucket (all 0#32)) (addi bucket (all 32#32)) bucket

/-- The tiles of biases before the mask. -/
def biases (T : FVec Ideal S32x16 .f32) : FVec Ideal S8x3x256x256 .f32 :=
  transpose S8x3x256x256 [3, 0, 1, 2] (Host.gather gather_S32x8_S3x256x256x1_S3x256x256x8_3_0_n_n_0_3_18 (extractStridedSlice S32x8 ![0, 0] T slices_S32x16_S32x8_0_0)
    (broadcastInDim S3x256x256x1 ![0, 1, 2] bcast_S3x256x256_S3x256x256x1_0_1_2 row)) transposes_S3x256x256x8_S8x3x256x256_3_0_1_2

/-- The tiles of biases, masked where the key comes after the query. -/
def tiles (T : FVec Ideal S32x16 .f32) : FVec Ideal S8x3x256x256 .f32 :=
  select (broadcastInDim S8x3x256x256 ![0, 1, 2, 3] bcast_S1x3x256x256_S8x3x256x256_0_1_2_3 (cmpi .sge (broadcastInDim S1x3x256x256 ![1, 2, 3] bcast_S3x256x256_S1x3x256x256_1_2_3 dist) (broadcastInDim S1x3x256x256 ![] bcast_S_S1x3x256x256 (constantI S_ 32 0#32))))
    (biases T) (broadcastInDim S8x3x256x256 ![] bcast_S_S8x3x256x256 (constant S_ .f32 0xFF800000#32))

/-- A row, reshaped twice. -/
def twice (x : FVec Ideal S1x64 .f32) : FVec Ideal S1x64 .f32 := shapeCast S1x64 (shapeCast S64 x shapeCasts_S1x64_S64) shapeCasts_S64_S1x64
def twiceG (x : FVec Ideal S1x128 .f32) : FVec Ideal S1x128 .f32 := shapeCast S1x128 (shapeCast S128 x shapeCasts_S1x128_S128) shapeCasts_S128_S1x128
theorem twice_at (x : FVec Ideal S1x64 .f32) (j : Fin 64) : twice x (ix2 (0 : Fin 1) j) = x (ix2 (0 : Fin 1) j) := by
  pointwise [twice]
theorem twiceG_at (x : FVec Ideal S1x128 .f32) (j : Fin 128) : twiceG x (ix2 (0 : Fin 1) j) = x (ix2 (0 : Fin 1) j) := by
  pointwise [twiceG]

set_option maxHeartbeats 4000000 in
/-- What the launch finds as tiles of biases. -/
theorem V_tiles (m : (ℓ : Loc nD τ sig) → Buf (Elt Ideal) ℓ) (c : Dev nD) : V m c main_v55 = tiles (m ((c : Thread nD τ).loc main_arg1)) := by
  unfold V
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

set_option maxHeartbeats 4000000 in
/-- What the launch finds as a small row. -/
theorem V_l1 (m : (ℓ : Loc nD τ sig) → Buf (Elt Ideal) ℓ) (c : Dev nD) : V m c main_v57 = twice (m ((c : Thread nD τ).loc main_arg2)) := by
  unfold V
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

set_option maxHeartbeats 4000000 in
/-- What the launch finds as a small row. -/
theorem V_l2 (m : (ℓ : Loc nD τ sig) → Buf (Elt Ideal) ℓ) (c : Dev nD) : V m c main_v59 = twice (m ((c : Thread nD τ).loc main_arg3)) := by
  unfold V
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

set_option maxHeartbeats 4000000 in
/-- What the launch finds as a small row. -/
theorem V_l3 (m : (ℓ : Loc nD τ sig) → Buf (Elt Ideal) ℓ) (c : Dev nD) : V m c main_v61 = twice (m ((c : Thread nD τ).loc main_arg4)) := by
  unfold V
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

set_option maxHeartbeats 4000000 in
/-- What the launch finds as a small row. -/
theorem V_l4 (m : (ℓ : Loc nD τ sig) → Buf (Elt Ideal) ℓ) (c : Dev nD) : V m c main_v63 = twice (m ((c : Thread nD τ).loc main_arg5)) := by
  unfold V
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

set_option maxHeartbeats 4000000 in
/-- What the launch finds as a small row. -/
theorem V_g (m : (ℓ : Loc nD τ sig) → Buf (Elt Ideal) ℓ) (c : Dev nD) : V m c main_v65 = twiceG (m ((c : Thread nD τ).loc main_arg6)) := by
  unfold V
  simp only [hostOps0, hostOps0_1, hostOps0_2, hostOps0_3, hostOps0_4, List.flatten_cons, List.flatten_nil, List.append_nil, List.cons_append, List.nil_append]
  after_results_simp <;> (try dsimp only [Matrix.cons_val]) <;> (try after_results_simp) <;> rfl

theorem tileDist_at (c : BitVec 32) (r s : Fin 256) : tileDist c (ix2 r s) = (c + BitVec.ofNat 32 r) - BitVec.ofNat 32 s := by
  pointwise [tileDist]
  rfl
theorem all_at (c : BitVec 32) (y : S3x256x256.Idx) : all c y = c := by
  pointwise [all]
theorem allf_at (c : BitVec 32) (y : S3x256x256.Idx) : allf c y = Ideal.ofBits .f32 c := by
  pointwise [allf]

/-- The distances at an index. -/
theorem dist_at (d : Fin 3) (r s : Fin 256) : dist (ix3 d r s) = BitVec.ofNat 32 (256 * d + r) - BitVec.ofNat 32 s := by
  have e : dist (ix3 d r s) = tileDist (BitVec.ofNat 32 (256 * d)) (ix2 r s) := by
    unfold dist
    generalize h0 : tileDist 0#32 = a; generalize h1 : tileDist 256#32 = b; generalize h2 : tileDist 512#32 = c
    fin_cases d
    · pointwise
      exact congrFun h0.symm _
    · pointwise
      exact congrFun h1.symm _
    · pointwise
      exact congrFun h2.symm _
  rw [e, tileDist_at, ← BitVec.ofNat_add]

/-- The rows of the table at an index. -/
theorem row_at (y : S3x256x256.Idx) : row y = Cert.AttBias.rowOf (dist y) := by
  unfold row bucket near Cert.AttBias.rowOf Cert.AttBias.bkt Cert.AttBias.near
  generalize dist = w
  pointwise [all, allf]

theorem gather_at (x : FVec Ideal S32x8 .f32) (w : IVec S3x256x256x1 32) (d : Fin 3) (r s : Fin 256) (h : Fin 8) :
    Host.gather gather_S32x8_S3x256x256x1_S3x256x256x8_3_0_n_n_0_3_18 x w (ix4 d r s h) = x (ix2 ⟨min (w (ix4 d r s (0 : Fin 1))).toInt.toNat (32 - 1), by omega⟩ h) := by
  unfold Host.gather
  congr 1
  funext a
  refine Fin.ext ?_
  show GatherDims.start _ _ w a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S3x256x256x1_S3x256x256x8_3_0_n_n_0_3_18.startIndexMap from List.mem_singleton.mpr rfl)]
    have hsi : gather_S32x8_S3x256x256x1_S3x256x256x8_3_0_n_n_0_3_18.siIdx (ix4 d r s h) ⟨List.idxOf (0 : Fin 2) gather_S32x8_S3x256x256x1_S3x256x256x8_3_0_n_n_0_3_18.startIndexMap,
        List.idxOf_lt_length_iff.2 (List.mem_singleton.mpr rfl)⟩ = ix4 d r s (0 : Fin 1) := by
      funext b; refine Fin.ext ?_
      match b with
      | ⟨0, _⟩ => rfl
      | ⟨1, _⟩ => rfl
      | ⟨2, _⟩ => rfl
      | ⟨3, _⟩ => rfl
    rw [hsi]
    rfl
  · unfold GatherDims.start
    rw [dif_neg (show ¬ (1 : Fin 2) ∈ gather_S32x8_S3x256x256x1_S3x256x256x8_3_0_n_n_0_3_18.startIndexMap from by decide)]
    rw [Nat.zero_add]
    rfl

theorem columns_at (T : FVec Ideal S32x16 .f32) (a : Fin 32) (h : Fin 8) : extractStridedSlice S32x8 ![0, 0] T slices_S32x16_S32x8_0_0 (ix2 a h) = T (ix2 a (⟨h, by omega⟩ : Fin 16)) := by
  pointwise

/-- Rows picked out of the table by words, at an index. -/
theorem pick_at (T : FVec Ideal S32x16 .f32) (w : IVec S3x256x256 32) (h : Fin 8) (d : Fin 3) (r s : Fin 256) :
    transpose S8x3x256x256 [3, 0, 1, 2] (Host.gather gather_S32x8_S3x256x256x1_S3x256x256x8_3_0_n_n_0_3_18 (extractStridedSlice S32x8 ![0, 0] T slices_S32x16_S32x8_0_0)
      (broadcastInDim S3x256x256x1 ![0, 1, 2] bcast_S3x256x256_S3x256x256x1_0_1_2 w)) transposes_S3x256x256x8_S8x3x256x256_3_0_1_2 (ix4 h d r s)
      = T (ix2 (⟨min (w (ix3 d r s)).toInt.toNat (32 - 1), by omega⟩ : Fin 32) (⟨h, by omega⟩ : Fin 16)) := by
  have e2 : broadcastInDim S3x256x256x1 ![0, 1, 2] bcast_S3x256x256_S3x256x256x1_0_1_2 w (ix4 d r s (0 : Fin 1)) = w (ix3 d r s) := by
    pointwise
  generalize hx : extractStridedSlice S32x8 ![0, 0] T slices_S32x16_S32x8_0_0 = x
  generalize hw : broadcastInDim S3x256x256x1 ![0, 1, 2] bcast_S3x256x256_S3x256x256x1_0_1_2 w = w' at e2
  have e : ∀ G : FVec Ideal S3x256x256x8 .f32, transpose S8x3x256x256 [3, 0, 1, 2] G transposes_S3x256x256x8_S8x3x256x256_3_0_1_2 (ix4 h d r s) = G (ix4 d r s h) := fun G => by
    pointwise
  rw [e, gather_at, ← hx, columns_at]
  simp only [e2]

/-- The row picked is the one of the distance. -/
theorem rowNo_eq (y : S3x256x256.Idx) (h : min (row y).toInt.toNat (32 - 1) < 32) : (⟨min (row y).toInt.toNat (32 - 1), h⟩ : Fin 32) = Cert.AttBias.rowNo (dist y) :=
  Fin.ext (congrArg (fun w : BitVec 32 => min w.toInt.toNat (32 - 1)) (row_at y))

attribute [local irreducible] row dist Cert.AttBias.rowNo

theorem biases_at (T : FVec Ideal S32x16 .f32) (h : Fin 8) (d : Fin 3) (r s : Fin 256) :
    biases T (ix4 h d r s) = T (ix2 (Cert.AttBias.rowNo (dist (ix3 d r s))) (⟨h, by omega⟩ : Fin 16)) := by
  rw [← rowNo_eq (ix3 d r s) (by omega)]
  exact pick_at T row h d r s

/-- The tiles at an index. -/
theorem tiles_at (T : FVec Ideal S32x16 .f32) (h : Fin 8) (t k : ℕ) (ht : t < 8) (hk : k ≤ t) (r s : Fin 256) :
    tiles T (ix4 h (⟨min (t - k) 2, by omega⟩ : Fin 3) r s) = Cert.AttBias.bias (fun a => T (ix2 a (⟨h, by omega⟩ : Fin 16))) (256 * t + r) (256 * k + s) := by
  have e : ∀ d : Fin 3, tiles T (ix4 h d r s) = Scalar.select (IntOp.cmpi .sge (dist (ix3 d r s)) 0#32) (biases T (ix4 h d r s)) (Ideal.ofBits .f32 4286578688#32) := fun d => by
    unfold tiles
    generalize dist = w
    generalize biases T = B
    pointwise
  rw [e, biases_at, dist_at, Cert.Consts.ofBits_neg_inf]
  exact Cert.AttBias.tile_eq (fun a => T (ix2 a (⟨h, by omega⟩ : Fin 16))) t k r s ht hk r.isLt s.isLt

/-! ## The blocks at an index -/

/-- The block indices of every window at every grid point. -/
theorem idx : ∀ t : Fin cfg0.N, win0_0.index t = ![t.val / 8, t.val % 8] ∧ win0_1.index t = ![t.val / 8, 8 + t.val % 8] ∧ win0_2.index t = ![t.val / 8, 16 + t.val % 8]
    ∧ win0_3.index t = ![t.val / 8, 24 + t.val % 8] ∧ win0_4.index t = ![t.val % 8, 0, 0, 0] ∧ win0_5.index t = ![0, 0] ∧ win0_6.index t = ![0, 0] ∧ win0_7.index t = ![0, 0]
    ∧ win0_8.index t = ![0, 0] ∧ win0_9.index t = ![0, 0] ∧ win0_10.index t = ![t.val / 8, t.val % 8] ∧ t.val < 128 :=
  (by decide +kernel : ∀ t : Fin grid0.N, _)

variable (m : (ℓ : Loc nD τ sig) → Buf (Elt Ideal) ℓ)

/-- The block of queries at an index. -/
theorem q_at (c : Dev nD) (t : Fin cfg0.N) (i : Fin 2048) (j : Fin 128) (I : Fin 32768) (J : Fin 8192) (hI : I.val = t.val / 8 * 2048 + i.val) (hJ : J.val = (0 + t.val % 8) * 128 + j.val) :
    iblk m c 0 t (ix2 i j) = m ((c : Thread nD τ).loc main_arg0) (ix2 I J) := by
  blk_point [iblk, V_main_arg0, idx t]

/-- The block of keys at an index. -/
theorem k_at (c : Dev nD) (t : Fin cfg0.N) (i : Fin 2048) (j : Fin 128) (I : Fin 32768) (J : Fin 8192) (hI : I.val = t.val / 8 * 2048 + i.val) (hJ : J.val = (8 + t.val % 8) * 128 + j.val) :
    iblk m c 1 t (ix2 i j) = m ((c : Thread nD τ).loc main_arg0) (ix2 I J) := by
  blk_point [iblk, V_main_arg0, idx t]

/-- The block of values at an index. -/
theorem v_at (c : Dev nD) (t : Fin cfg0.N) (i : Fin 2048) (j : Fin 128) (I : Fin 32768) (J : Fin 8192) (hI : I.val = t.val / 8 * 2048 + i.val) (hJ : J.val = (16 + t.val % 8) * 128 + j.val) :
    iblk m c 2 t (ix2 i j) = m ((c : Thread nD τ).loc main_arg0) (ix2 I J) := by
  blk_point [iblk, V_main_arg0, idx t]

/-- The block of gates at an index. -/
theorem z_at (c : Dev nD) (t : Fin cfg0.N) (i : Fin 2048) (j : Fin 128) (I : Fin 32768) (J : Fin 8192) (hI : I.val = t.val / 8 * 2048 + i.val) (hJ : J.val = (24 + t.val % 8) * 128 + j.val) :
    iblk m c 3 t (ix2 i j) = m ((c : Thread nD τ).loc main_arg0) (ix2 I J) := by
  blk_point [iblk, V_main_arg0, idx t]

/-- The tiles' block at an index. -/
theorem b_at (c : Dev nD) (t : Fin cfg0.N) (d : Fin 3) (r s : Fin 256) (h : Fin 8) (hh : h.val = t.val % 8) :
    iblk m c 4 t (ix4 (0 : Fin 1) d r s) = tiles (m ((c : Thread nD τ).loc main_arg1)) (ix4 h d r s) := by
  have hV := V_tiles m c
  generalize tiles (m ((c : Thread nD τ).loc main_arg1)) = W at hV ⊢
  blk_point [iblk, hV, idx t]

theorem l1_at (c : Dev nD) (t : Fin cfg0.N) (j : Fin 64) : iblk m c 5 t (ix2 (0 : Fin 1) j) = m ((c : Thread nD τ).loc main_arg2) (ix2 (0 : Fin 1) j) := by
  have h : iblk m c 5 t (ix2 (0 : Fin 1) j) = twice (m ((c : Thread nD τ).loc main_arg2)) (ix2 (0 : Fin 1) j) := by
    blk_point [iblk, V_l1, idx t]
  rw [h, twice_at]
theorem l2_at (c : Dev nD) (t : Fin cfg0.N) (j : Fin 64) : iblk m c 6 t (ix2 (0 : Fin 1) j) = m ((c : Thread nD τ).loc main_arg3) (ix2 (0 : Fin 1) j) := by
  have h : iblk m c 6 t (ix2 (0 : Fin 1) j) = twice (m ((c : Thread nD τ).loc main_arg3)) (ix2 (0 : Fin 1) j) := by
    blk_point [iblk, V_l2, idx t]
  rw [h, twice_at]
theorem l3_at (c : Dev nD) (t : Fin cfg0.N) (j : Fin 64) : iblk m c 7 t (ix2 (0 : Fin 1) j) = m ((c : Thread nD τ).loc main_arg4) (ix2 (0 : Fin 1) j) := by
  have h : iblk m c 7 t (ix2 (0 : Fin 1) j) = twice (m ((c : Thread nD τ).loc main_arg4)) (ix2 (0 : Fin 1) j) := by
    blk_point [iblk, V_l3, idx t]
  rw [h, twice_at]
theorem l4_at (c : Dev nD) (t : Fin cfg0.N) (j : Fin 64) : iblk m c 8 t (ix2 (0 : Fin 1) j) = m ((c : Thread nD τ).loc main_arg5) (ix2 (0 : Fin 1) j) := by
  have h : iblk m c 8 t (ix2 (0 : Fin 1) j) = twice (m ((c : Thread nD τ).loc main_arg5)) (ix2 (0 : Fin 1) j) := by
    blk_point [iblk, V_l4, idx t]
  rw [h, twice_at]
theorem g_at (c : Dev nD) (t : Fin cfg0.N) (j : Fin 128) : iblk m c 9 t (ix2 (0 : Fin 1) j) = m ((c : Thread nD τ).loc main_arg6) (ix2 (0 : Fin 1) j) := by
  have h : iblk m c 9 t (ix2 (0 : Fin 1) j) = twiceG (m ((c : Thread nD τ).loc main_arg6)) (ix2 (0 : Fin 1) j) := by
    blk_point [iblk, V_g, idx t]
  rw [h, twiceG_at]

end Cert.KernelIdeal.AttHost
-- ==== Proof.AttRow.lean ====
/- The attention's rows. Over finite queries, keys and values, the running values of a row are its weights and weighted
   values over the keys gone through, scaled by the exponential of minus the running maximum. -/
module

public import proofs.«01_k».proof.Proof.AttRunIdeal
public import proofs.«01_k».proof.Proof.AttMath
public import Idealize.ShloMosaic.Lib.Pointwise
public import Idealize.ShloMosaic.Lib.Pipeline.ValueKit

@[expose] public section

set_option maxRecDepth 16384

noncomputable section

namespace Cert.KernelIdeal.AttRow

open Idealize.ShloMosaic Idealize.ShloMosaic.TcCoe
open Cert.KernelIdeal Cert.KernelIdeal.Gen Cert.KernelIdeal.Att Cert.AttMath

/-! ## The boxes read -/

theorem off2_eq : ∀ (t : Fin k0_t1_loop.trips) (k : Fin (k0_t2_loop t).trips), k0_off2 t k = ![256 * k.val, 0] := by decide +kernel
theorem off3_eq : ∀ (t : Fin k0_t1_loop.trips) (k : Fin (k0_t2_loop t).trips), k0_off3 t k = ![0, min (t.val - k.val) 2, 0, 0] := by decide +kernel
theorem trips_eq : ∀ t : Fin k0_t1_loop.trips, (k0_t2_loop t).trips = t.val + 1 := by decide +kernel

/-- The rows of a block of queries. -/
theorem ld_rows (X : Vec Ideal S2048x128 .bf16) (t : Fin k0_t1_loop.trips) (r : Fin 256) (d : Fin 128) (i : Fin 2048) (hi : i.val = 256 * t.val + r.val) :
    View.ld (Val := Elt Ideal) X (Rect.unit (s := S2048x128) (k0_off1 t) S256x128.size (k0_off1_inb t)) (ix2 r d) = X (ix2 i d) :=
  View.ld_unit_apply_of (Val := Elt Ideal) X _ _ _ _ _ fun a => by
    have e := off1_eq t
    fin_cases a
    · show i.val = k0_off1 t 0 + r.val
      rw [e]; exact hi
    · show d.val = k0_off1 t 1 + d.val
      rw [e]; exact (Nat.zero_add _).symm

/-- The rows of a block of keys. -/
theorem ld_keys (X : Vec Ideal S2048x128 .bf16) (t : Fin k0_t1_loop.trips) (k : Fin (k0_t2_loop t).trips) (r : Fin 256) (d : Fin 128) (i : Fin 2048) (hi : i.val = 256 * k.val + r.val) :
    View.ld (Val := Elt Ideal) X (Rect.unit (s := S2048x128) (k0_off2 t k) S256x128.size (k0_off2_inb t k)) (ix2 r d) = X (ix2 i d) :=
  View.ld_unit_apply_of (Val := Elt Ideal) X _ _ _ _ _ fun a => by
    have e := off2_eq t k
    fin_cases a
    · show i.val = k0_off2 t k 0 + r.val
      rw [e]; exact hi
    · show d.val = k0_off2 t k 1 + d.val
      rw [e]; exact (Nat.zero_add _).symm

/-- The tile of biases. -/
theorem ld_tile (X : Vec Ideal S1x3x256x256 .f32) (t : Fin k0_t1_loop.trips) (k : Fin (k0_t2_loop t).trips) (r s : Fin 256) :
    View.ld (Val := Elt Ideal) X (Rect.unit (s := S1x3x256x256) (k0_off3 t k) S1x1x256x256.size (k0_off3_inb t k)) (ix4 (0 : Fin 1) (0 : Fin 1) r s)
      = X (ix4 (0 : Fin 1) (⟨min (t.val - k.val) 2, by omega⟩ : Fin 3) r s) :=
  View.ld_unit_apply_of (Val := Elt Ideal) X _ _ _ _ _ fun a => by
    have e := off3_eq t k
    fin_cases a
    · show 0 = k0_off3 t k 0 + 0
      rw [e]; rfl
    · show min (t.val - k.val) 2 = k0_off3 t k 1 + 0
      rw [e]; rfl
    · show r.val = k0_off3 t k 2 + r.val
      rw [e]; exact (Nat.zero_add _).symm
    · show s.val = k0_off3 t k 3 + s.val
      rw [e]; exact (Nat.zero_add _).symm

/-! ## The body's values at an index -/

theorem pay6_at (K : Vec Ideal S256x128 .bf16) (B : Vec Ideal S1x1x256x256 .f32) (Q : Vec Ideal S512x128 .bf16) (r s : Fin 256) :
    k0_pay6 K B Q (ix2 r s) = (∑ x : Fin 128, Q (ix2 (⟨r, by omega⟩ : Fin 512) x) * K (ix2 s x)) + B (ix4 (0 : Fin 1) (0 : Fin 1) r s) := by
  pointwise [k0_pay6, k0_pay5, k0_pay4]

theorem pay14_at (K : Vec Ideal S256x128 .bf16) (B : Vec Ideal S1x1x256x256 .f32) (Q : Vec Ideal S512x128 .bf16) (r s : Fin 256) :
    k0_pay14 (k0_pay4 B) (k0_pay5 K Q) (ix2 r s) = (∑ x : Fin 128, Q (ix2 (⟨256 + r, by omega⟩ : Fin 512) x) * K (ix2 s x)) + B (ix4 (0 : Fin 1) (0 : Fin 1) r s) := by
  pointwise [k0_pay14, k0_pay5, k0_pay4]

theorem pay8_at (K : Vec Ideal S256x128 .bf16) (B : Vec Ideal S1x1x256x256 .f32) (Q : Vec Ideal S512x128 .bf16) (m : Vec Ideal S1x256x1 .f32) (r : Fin 256) :
    k0_pay8 K B Q m (ix2 r (0 : Fin 1)) = max (m (ix3 (0 : Fin 1) r (0 : Fin 1))) (Finset.fold max (Ideal.ofBits .f32 4286578688#32) (fun x => k0_pay6 K B Q (ix2 r x)) Finset.univ) := by
  unfold k0_pay8 k0_pay7
  generalize k0_pay6 K B Q = X
  pointwise

theorem pay16_at (B : FVec Ideal S256x256 .f32) (S : FVec Ideal S512x256 .f32) (m : Vec Ideal S1x256x1 .f32) (r : Fin 256) :
    k0_pay16 B S m (ix2 r (0 : Fin 1)) = max (m (ix3 (0 : Fin 1) r (0 : Fin 1))) (Finset.fold max (Ideal.ofBits .f32 4286578688#32) (fun x => k0_pay14 B S (ix2 r x)) Finset.univ) := by
  unfold k0_pay16 k0_pay15
  generalize k0_pay14 B S = X
  pointwise

theorem pay9_at (K : Vec Ideal S256x128 .bf16) (B : Vec Ideal S1x1x256x256 .f32) (Q : Vec Ideal S512x128 .bf16) (m : Vec Ideal S1x256x1 .f32) (r : Fin 256) :
    k0_pay9 K B Q m (ix2 r (0 : Fin 1)) = Ideal.exp (m (ix3 (0 : Fin 1) r (0 : Fin 1)) - k0_pay8 K B Q m (ix2 r (0 : Fin 1))) := by
  unfold k0_pay9 k0_pay7
  generalize k0_pay8 K B Q m = Y
  pointwise

theorem pay17_at (B : FVec Ideal S256x256 .f32) (S : FVec Ideal S512x256 .f32) (m : Vec Ideal S1x256x1 .f32) (r : Fin 256) :
    k0_pay17 B S m (ix2 r (0 : Fin 1)) = Ideal.exp (m (ix3 (0 : Fin 1) r (0 : Fin 1)) - k0_pay16 B S m (ix2 r (0 : Fin 1))) := by
  unfold k0_pay17 k0_pay15
  generalize k0_pay16 B S m = Y
  pointwise

theorem pay10_at (K : Vec Ideal S256x128 .bf16) (B : Vec Ideal S1x1x256x256 .f32) (Q : Vec Ideal S512x128 .bf16) (m : Vec Ideal S1x256x1 .f32) (r s : Fin 256) :
    k0_pay10 K B Q m (ix2 r s) = Ideal.exp (k0_pay6 K B Q (ix2 r s) - k0_pay8 K B Q m (ix2 r (0 : Fin 1))) := by
  unfold k0_pay10
  generalize k0_pay8 K B Q m = Y
  generalize k0_pay6 K B Q = X
  pointwise

theorem pay18_at (B : FVec Ideal S256x256 .f32) (S : FVec Ideal S512x256 .f32) (m : Vec Ideal S1x256x1 .f32) (r s : Fin 256) :
    k0_pay18 B S m (ix2 r s) = Ideal.exp (k0_pay14 B S (ix2 r s) - k0_pay16 B S m (ix2 r (0 : Fin 1))) := by
  unfold k0_pay18
  generalize k0_pay16 B S m = Y
  generalize k0_pay14 B S = X
  pointwise

theorem pay11_at (K : Vec Ideal S256x128 .bf16) (B : Vec Ideal S1x1x256x256 .f32) (Q : Vec Ideal S512x128 .bf16) (m l : Vec Ideal S1x256x1 .f32) (r : Fin 256) :
    k0_pay11 K B Q m l (ix3 (0 : Fin 1) r (0 : Fin 1)) = k0_pay9 K B Q m (ix2 r (0 : Fin 1)) * l (ix3 (0 : Fin 1) r (0 : Fin 1)) + ∑ x : Fin 256, k0_pay10 K B Q m (ix2 r x) := by
  unfold k0_pay11
  generalize k0_pay9 K B Q m = Y
  generalize k0_pay10 K B Q m = X
  pointwise

theorem pay19_at (B : FVec Ideal S256x256 .f32) (S : FVec Ideal S512x256 .f32) (m l : Vec Ideal S1x256x1 .f32) (r : Fin 256) :
    k0_pay19 B S m l (ix3 (0 : Fin 1) r (0 : Fin 1)) = k0_pay17 B S m (ix2 r (0 : Fin 1)) * l (ix3 (0 : Fin 1) r (0 : Fin 1)) + ∑ x : Fin 256, k0_pay18 B S m (ix2 r x) := by
  unfold k0_pay19
  generalize k0_pay17 B S m = Y
  generalize k0_pay18 B S m = X
  pointwise

theorem pay12_at (V : Vec Ideal S256x128 .bf16) (al : FVec Ideal S256x1 .f32) (p : FVec Ideal S256x256 .f32) (a : Vec Ideal S1x256x128 .f32) (r : Fin 256) (d : Fin 128) :
    k0_pay12 V al p a (ix3 (0 : Fin 1) r d) = al (ix2 r (0 : Fin 1)) * a (ix3 (0 : Fin 1) r d) + ∑ x : Fin 256, p (ix2 r x) * V (ix2 x d) := by
  pointwise [k0_pay12]

theorem pay44_at (V : Vec Ideal S256x128 .bf16) (al : FVec Ideal S256x1 .f32) (p : FVec Ideal S256x256 .f32) (a : Vec Ideal S1x256x128 .f32) (r : Fin 256) (d : Fin 128) :
    k0_pay44 V al p (k0_pay20 a) (ix3 (0 : Fin 1) r d) = al (ix2 r (0 : Fin 1)) * a (ix3 (0 : Fin 1) r d) + ∑ x : Fin 256, p (ix2 r x) * V (ix2 x d) := by
  pointwise [k0_pay44, k0_pay20]

theorem pay13_at (x : FVec Ideal S256x1 .f32) (r : Fin 256) : k0_pay13 x (ix3 (0 : Fin 1) r (0 : Fin 1)) = x (ix2 r (0 : Fin 1)) := by
  pointwise [k0_pay13]
theorem pay45_at (x : FVec Ideal S256x1 .f32) (r : Fin 256) : k0_pay45 x (ix3 (0 : Fin 1) r (0 : Fin 1)) = x (ix2 r (0 : Fin 1)) := by
  pointwise [k0_pay45]

theorem pay41_at (y : S2x256x1.Idx) : k0_pay41 (F := Ideal) y = Ideal.ofBits .f32 4048155338#32 := by
  pointwise [k0_pay41]
theorem pay42_at (y : S2x256x1.Idx) : k0_pay42 (F := Ideal) y = 0 := by
  pointwise [k0_pay42]
theorem pay43_at (y : S2x256x128.Idx) : k0_pay43 (F := Ideal) y = 0 := by
  pointwise [k0_pay43]

theorem slt_64 : ∀ j : Fin 128, IntOp.cmpi .slt (BitVec.ofNat 32 (j : ℕ)) 64#32 = if (j : ℕ) < 64 then 1#1 else 0#1 := by decide +kernel
theorem sge_64 : ∀ j : Fin 128, IntOp.cmpi .sge (BitVec.ofNat 32 (j : ℕ)) 64#32 = if (j : ℕ) < 64 then 0#1 else 1#1 := by decide +kernel

/-- The scaled queries: the upper rows keep the first half of the columns, the lower rows the second. -/
theorem pay39_at (x : Vec Ideal S256x128 .bf16) (r : Fin 256) (j : Fin 128) :
    k0_pay39 (iota .tc S256x128 32 [1] iota_S256x128_d1_w32) k0_pay2 x (ix2 r j) = if (j : ℕ) < 64 then x (ix2 r j) * Ideal.ofBits .bf16 15872#16 else 0 := by
  pointwise [k0_pay39, k0_pay38, k0_pay2]
  rw [slt_64]
  split_ifs <;> rfl
theorem pay40_at (x : Vec Ideal S256x128 .bf16) (r : Fin 256) (j : Fin 128) :
    k0_pay40 (iota .tc S256x128 32 [1] iota_S256x128_d1_w32) k0_pay2 x (ix2 r j) = if (j : ℕ) < 64 then 0 else x (ix2 r j) * Ideal.ofBits .bf16 15872#16 := by
  pointwise [k0_pay40, k0_pay38, k0_pay2]
  rw [sge_64]
  split_ifs <;> rfl

theorem qs_lo (x : Vec Ideal S256x128 .bf16) (r : Fin 256) (j : Fin 128) :
    qs x (ix2 (⟨r, by omega⟩ : Fin 512) j) = if (j : ℕ) < 64 then x (ix2 r j) * Ideal.ofBits .bf16 15872#16 else 0 := by
  rw [← pay39_at]
  unfold qs
  canon_tiles
  case piece0 =>
    exfalso
    have h : r.val = 256 + (x 0).val := h0
    omega
  case piece1 =>
    refine congrArg _ ?_
    funext a
    apply Fin.ext
    fin_cases a
    · exact h0.symm
    · exact h1.symm

theorem qs_hi (x : Vec Ideal S256x128 .bf16) (r : Fin 256) (j : Fin 128) :
    qs x (ix2 (⟨256 + r, by omega⟩ : Fin 512) j) = if (j : ℕ) < 64 then 0 else x (ix2 r j) * Ideal.ofBits .bf16 15872#16 := by
  rw [← pay40_at]
  unfold qs
  canon_tiles
  case piece0 =>
    refine congrArg _ ?_
    funext a
    apply Fin.ext
    fin_cases a
    · have h : 256 + r.val = 256 + (x 0).val := h0
      show (x 0).val = r.val
      omega
    · exact h1.symm
  case piece1 =>
    exfalso
    have h : 256 + r.val = (x 0).val := h0
    omega

/-- The normalised difference of the two halves, at a column. -/
def nrm (y g : Fin 128 → EReal) (d : Fin 128) : EReal :=
  y d * Ideal.rsqrt (Ideal.div (∑ k, y k * y k) (Ideal.ofBits .f32 1124073472#32) + Ideal.ofBits .f32 897988541#32) * g d * Ideal.ofBits .f32 1061997773#32

theorem pay48_at (lam : Vec Ideal S1x1 .f32) (a0 a1 : Vec Ideal S1x256x128 .f32) (l0 l1 : Vec Ideal S1x256x1 .f32) (g : Vec Ideal S1x128 .f32) (r : Fin 256) (d : Fin 128) :
    k0_pay48 lam a0 l0 a1 l1 g (ix2 r d) = nrm (fun d => Ideal.div (a0 (ix3 (0 : Fin 1) r d)) (l0 (ix3 (0 : Fin 1) r (0 : Fin 1))) - lam (ix2 (0 : Fin 1) (0 : Fin 1)) * Ideal.div (a1 (ix3 (0 : Fin 1) r d)) (l1 (ix3 (0 : Fin 1) r (0 : Fin 1))))
      (fun d => g (ix2 (0 : Fin 1) d)) d := by
  pointwise [k0_pay48, nrm]

theorem pay3_at (x : FVec Ideal S256x128 .f32) (z : Vec Ideal S256x128 .bf16) (r : Fin 256) (d : Fin 128) :
    k0_pay3 x z (ix2 r d) = x (ix2 r d) * Ideal.div (z (ix2 r d)) (1 + Ideal.exp (0 - z (ix2 r d))) := by
  pointwise [k0_pay3]

theorem pay1_at (x y z w : Vec Ideal S1x64 .f32) :
    k0_pay1 x y z w (ix2 (0 : Fin 1) (0 : Fin 1)) = Ideal.exp (∑ j : Fin 64, x (ix2 (0 : Fin 1) j) * y (ix2 (0 : Fin 1) j))
      - Ideal.exp (∑ j : Fin 64, z (ix2 (0 : Fin 1) j) * w (ix2 (0 : Fin 1) j)) + Ideal.ofBits .f32 1045220557#32 := by
  pointwise [k0_pay1]

/-! ## The rows -/

/-- A fold of maxima of logits that are not `⊤` is not `⊤`. -/
theorem fold_ne_top {ι : Type*} (S : Finset ι) (f : ι → EReal) (h : ∀ i, f i ≠ ⊤) : Finset.fold max (Ideal.ofBits .f32 4286578688#32) f S ≠ ⊤ := by
  classical
  rw [Cert.Consts.ofBits_neg_inf]
  induction S using Finset.induction_on with
  | empty => rw [Finset.fold_empty]; exact bot_ne_top
  | insert a s ha ih =>
    rw [Finset.fold_insert ha]
    rcases max_choice (f a) (Finset.fold max ⊥ f s) with e | e <;> rw [e]
    · exact h a
    · exact ih

/-- One block of keys takes a row of the first half on. -/
theorem next_lo (K V : Vec Ideal S256x128 .bf16) (B : Vec Ideal S1x1x256x256 .f32) (Q : Vec Ideal S512x128 .bf16) (s : St Ideal) (r : Fin 256) (d : Fin 128)
    {L A : ℝ} (h : Row (s.m0 (ix3 (0 : Fin 1) r (0 : Fin 1))) (s.l0 (ix3 (0 : Fin 1) r (0 : Fin 1))) (s.a0 (ix3 (0 : Fin 1) r d)) L A)
    (x : Fin 256 → EReal) (hx : ∀ i, x i ≠ ⊤) (hp : ∀ i, k0_pay6 K B Q (ix2 r i) = x i) (v : Fin 256 → ℝ) (hv : ∀ i, V (ix2 i d) = (v i : EReal)) :
    Row ((s.next K V B Q).m0 (ix3 (0 : Fin 1) r (0 : Fin 1))) ((s.next K V B Q).l0 (ix3 (0 : Fin 1) r (0 : Fin 1))) ((s.next K V B Q).a0 (ix3 (0 : Fin 1) r d))
      (L + ∑ i, wt (x i)) (A + ∑ i, wt (x i) * v i) := by
  have hm := pay8_at K B Q s.m0 r
  simp only [hp] at hm
  have h' := h.next _ (fold_ne_top Finset.univ x hx) x hx v
  rw [← hm] at h'
  have e1 : (s.next K V B Q).m0 (ix3 (0 : Fin 1) r (0 : Fin 1)) = k0_pay8 K B Q s.m0 (ix2 r (0 : Fin 1)) := pay13_at (k0_pay8 K B Q s.m0) r
  have e2 : (s.next K V B Q).l0 (ix3 (0 : Fin 1) r (0 : Fin 1)) = _ := pay11_at K B Q s.m0 s.l0 r
  have e3 : (s.next K V B Q).a0 (ix3 (0 : Fin 1) r d) = _ := pay12_at V (k0_pay9 K B Q s.m0) (k0_pay10 K B Q s.m0) s.a0 r d
  rw [e1, e2, e3, pay9_at]
  simp only [pay10_at, hp, hv]
  exact h'

/-- One block of keys takes a row of the second half on. -/
theorem next_hi (K V : Vec Ideal S256x128 .bf16) (B : Vec Ideal S1x1x256x256 .f32) (Q : Vec Ideal S512x128 .bf16) (s : St Ideal) (r : Fin 256) (d : Fin 128)
    {L A : ℝ} (h : Row (s.m1 (ix3 (0 : Fin 1) r (0 : Fin 1))) (s.l1 (ix3 (0 : Fin 1) r (0 : Fin 1))) (s.a1 (ix3 (0 : Fin 1) r d)) L A)
    (x : Fin 256 → EReal) (hx : ∀ i, x i ≠ ⊤) (hp : ∀ i, k0_pay14 (k0_pay4 B) (k0_pay5 K Q) (ix2 r i) = x i) (v : Fin 256 → ℝ) (hv : ∀ i, V (ix2 i d) = (v i : EReal)) :
    Row ((s.next K V B Q).m1 (ix3 (0 : Fin 1) r (0 : Fin 1))) ((s.next K V B Q).l1 (ix3 (0 : Fin 1) r (0 : Fin 1))) ((s.next K V B Q).a1 (ix3 (0 : Fin 1) r d))
      (L + ∑ i, wt (x i)) (A + ∑ i, wt (x i) * v i) := by
  have hm := pay16_at (k0_pay4 B) (k0_pay5 K Q) s.m1 r
  simp only [hp] at hm
  have h' := h.next _ (fold_ne_top Finset.univ x hx) x hx v
  rw [← hm] at h'
  have e1 : (s.next K V B Q).m1 (ix3 (0 : Fin 1) r (0 : Fin 1)) = k0_pay16 (k0_pay4 B) (k0_pay5 K Q) s.m1 (ix2 r (0 : Fin 1)) := pay45_at (k0_pay16 (k0_pay4 B) (k0_pay5 K Q) s.m1) r
  have e2 : (s.next K V B Q).l1 (ix3 (0 : Fin 1) r (0 : Fin 1)) = _ := pay19_at (k0_pay4 B) (k0_pay5 K Q) s.m1 s.l1 r
  have e3 : (s.next K V B Q).a1 (ix3 (0 : Fin 1) r d) = _ := pay44_at V (k0_pay17 (k0_pay4 B) (k0_pay5 K Q) s.m1) (k0_pay18 (k0_pay4 B) (k0_pay5 K Q) s.m1) s.a1 r d
  rw [e1, e2, e3, pay17_at]
  simp only [pay18_at, hp, hv]
  exact h'

/-- The product of a query's half `c` with a key, over real entries, one eighth of it taken. -/
def prod (q k : ℕ → ℕ → ℝ) (c i s : ℕ) : ℝ := (∑ j : Fin 64, q i (64 * c + j) * k s (64 * c + j)) * (1 / 8)

/-- The logit of half `c` of query `i` against key `s`. -/
def lg (q k : ℕ → ℕ → ℝ) (b : ℕ → ℕ → EReal) (c i s : ℕ) : EReal := ((prod q k c i s : ℝ) : EReal) + b i s

theorem lg_ne_top (q k : ℕ → ℕ → ℝ) (b : ℕ → ℕ → EReal) (hb : ∀ i s, b i s ≠ ⊤) (c i s : ℕ) : lg q k b c i s ≠ ⊤ := by
  unfold lg
  have h := hb i s
  generalize b i s = y at h
  induction y with
  | bot => rw [EReal.add_bot]; exact bot_ne_top
  | top => exact absurd rfl h
  | coe r => rw [← EReal.coe_add]; exact EReal.coe_ne_top _

/-- The scaled product of a masked query with a key is the product over the half kept. -/
theorem dot_lo (f g : ℕ → ℝ) : (∑ x : Fin 128, (if (x : ℕ) < 64 then (f x : EReal) * Ideal.ofBits .bf16 15872#16 else 0) * (g x : EReal))
    = (((∑ j : Fin 64, f (64 * 0 + j) * g (64 * 0 + j)) * (1 / 8) : ℝ) : EReal) := by
  have e : ∀ x : Fin 128, (if (x : ℕ) < 64 then (f x : EReal) * Ideal.ofBits .bf16 15872#16 else 0) * (g x : EReal)
      = (((if (x : ℕ) < 64 then f x * (1 / 8) else 0) * g x : ℝ) : EReal) := fun x => by
    rw [Cert.Consts.ofBits_eighth_bf16]
    split_ifs
    · rw [EReal.coe_mul, EReal.coe_mul]
    · rw [EReal.coe_mul, EReal.coe_zero]
  simp only [e]
  rw [sum_coe, show (∑ x : Fin 128, (if (x : ℕ) < 64 then f x * (1 / 8) else 0) * g x) = ∑ x : Fin (64 + 64), (if (x : ℕ) < 64 then f x * (1 / 8) else 0) * g x from rfl,
    Fin.sum_univ_add, Finset.sum_mul]
  congr 1
  have h1 : ∀ x : Fin 64, (if ((Fin.castAdd 64 x : Fin (64 + 64)) : ℕ) < 64 then f (Fin.castAdd 64 x : Fin (64 + 64)) * (1 / 8) else 0) * g (Fin.castAdd 64 x : Fin (64 + 64))
      = f (64 * 0 + x) * g (64 * 0 + x) * (1 / 8) := fun x => by
    have hx : ((Fin.castAdd 64 x : Fin (64 + 64)) : ℕ) = x := rfl
    rw [hx, if_pos x.isLt, Nat.mul_zero, Nat.zero_add]; ring
  have h2 : ∀ x : Fin 64, (if ((Fin.natAdd 64 x : Fin (64 + 64)) : ℕ) < 64 then f (Fin.natAdd 64 x : Fin (64 + 64)) * (1 / 8) else 0) * g (Fin.natAdd 64 x : Fin (64 + 64)) = 0 := fun x => by
    have hx : ((Fin.natAdd 64 x : Fin (64 + 64)) : ℕ) = 64 + x := rfl
    rw [hx, if_neg (by omega), zero_mul]
  simp only [h1, h2, Finset.sum_const_zero, add_zero]

theorem dot_hi (f g : ℕ → ℝ) : (∑ x : Fin 128, (if (x : ℕ) < 64 then 0 else (f x : EReal) * Ideal.ofBits .bf16 15872#16) * (g x : EReal))
    = (((∑ j : Fin 64, f (64 * 1 + j) * g (64 * 1 + j)) * (1 / 8) : ℝ) : EReal) := by
  have e : ∀ x : Fin 128, (if (x : ℕ) < 64 then 0 else (f x : EReal) * Ideal.ofBits .bf16 15872#16) * (g x : EReal)
      = (((if (x : ℕ) < 64 then 0 else f x * (1 / 8)) * g x : ℝ) : EReal) := fun x => by
    rw [Cert.Consts.ofBits_eighth_bf16]
    split_ifs
    · rw [EReal.coe_mul, EReal.coe_zero]
    · rw [EReal.coe_mul, EReal.coe_mul]
  simp only [e]
  rw [sum_coe, show (∑ x : Fin 128, (if (x : ℕ) < 64 then 0 else f x * (1 / 8)) * g x) = ∑ x : Fin (64 + 64), (if (x : ℕ) < 64 then 0 else f x * (1 / 8)) * g x from rfl,
    Fin.sum_univ_add, Finset.sum_mul]
  congr 1
  have h1 : ∀ x : Fin 64, (if ((Fin.natAdd 64 x : Fin (64 + 64)) : ℕ) < 64 then 0 else f (Fin.natAdd 64 x : Fin (64 + 64)) * (1 / 8)) * g (Fin.natAdd 64 x : Fin (64 + 64))
      = f (64 * 1 + x) * g (64 * 1 + x) * (1 / 8) := fun x => by
    have hx : ((Fin.natAdd 64 x : Fin (64 + 64)) : ℕ) = 64 + x := rfl
    rw [hx, if_neg (by omega), Nat.mul_one]; ring
  have h2 : ∀ x : Fin 64, (if ((Fin.castAdd 64 x : Fin (64 + 64)) : ℕ) < 64 then 0 else f (Fin.castAdd 64 x : Fin (64 + 64)) * (1 / 8)) * g (Fin.castAdd 64 x : Fin (64 + 64)) = 0 := fun x => by
    have hx : ((Fin.castAdd 64 x : Fin (64 + 64)) : ℕ) = x := rfl
    rw [hx, if_pos x.isLt, zero_mul]
  simp only [h1, h2, Finset.sum_const_zero, zero_add]

/-- What a point's blocks hold: real queries, keys and values, and tiles of biases that are those of the distances. -/
structure Blocks (x2 x3 x4 : Vec Ideal S2048x128 .bf16) (x6 : Vec Ideal S1x3x256x256 .f32) (q k v : ℕ → ℕ → ℝ) (b : ℕ → ℕ → EReal) : Prop where
  hq : ∀ (i : Fin 2048) (j : Fin 128), x2 (ix2 i j) = ((q i j : ℝ) : EReal)
  hk : ∀ (i : Fin 2048) (j : Fin 128), x3 (ix2 i j) = ((k i j : ℝ) : EReal)
  hv : ∀ (i : Fin 2048) (j : Fin 128), x4 (ix2 i j) = ((v i j : ℝ) : EReal)
  hb : ∀ i s, b i s ≠ ⊤
  tile : ∀ (t k : ℕ), t < 8 → k ≤ t → ∀ r s : Fin 256, x6 (ix4 (0 : Fin 1) (⟨min (t - k) 2, by omega⟩ : Fin 3) r s) = b (256 * t + r) (256 * k + s)

/-- A row's running values before key block `n`: its weights and weighted values over the keys of the blocks before. -/
theorem stAt_row {x2 x3 x4 : Vec Ideal S2048x128 .bf16} {x6 : Vec Ideal S1x3x256x256 .f32} {q k v : ℕ → ℕ → ℝ} {b : ℕ → ℕ → EReal} (H : Blocks x2 x3 x4 x6 q k v b)
    (t : Fin k0_t1_loop.trips) (r : Fin 256) (d : Fin 128) (n : ℕ) (hn : n ≤ t.val + 1) :
    let s := stAt x3 x4 x6 (qs (View.ld x2 (Rect.unit (s := S2048x128) (k0_off1 t) S256x128.size (k0_off1_inb t)))) t n
    Row (s.m0 (ix3 (0 : Fin 1) r (0 : Fin 1))) (s.l0 (ix3 (0 : Fin 1) r (0 : Fin 1))) (s.a0 (ix3 (0 : Fin 1) r d))
        (∑ i ∈ Finset.range (256 * n), wt (lg q k b 0 (256 * t + r) i)) (∑ i ∈ Finset.range (256 * n), wt (lg q k b 0 (256 * t + r) i) * v i d)
      ∧ Row (s.m1 (ix3 (0 : Fin 1) r (0 : Fin 1))) (s.l1 (ix3 (0 : Fin 1) r (0 : Fin 1))) (s.a1 (ix3 (0 : Fin 1) r d))
        (∑ i ∈ Finset.range (256 * n), wt (lg q k b 1 (256 * t + r) i)) (∑ i ∈ Finset.range (256 * n), wt (lg q k b 1 (256 * t + r) i) * v i d) := by
  have ht : t.val < 8 := t.isLt
  induction n with
  | zero =>
    have h41 : ∀ y, k0_pay41 (F := Ideal) y = ((-(13234890 * 2 ^ 76) : ℝ) : EReal) := fun y => (pay41_at y).trans Cert.Consts.ofBits_start
    intro s
    simp only [Nat.mul_zero, Finset.range_zero, Finset.sum_empty]
    have z := Row.zero (-(13234890 * 2 ^ 76))
    have a0 : (St.start (F := Ideal)).m0 (ix3 (0 : Fin 1) r (0 : Fin 1)) = ((-(13234890 * 2 ^ 76) : ℝ) : EReal) := h41 (lo1.idx (ix3 (0 : Fin 1) r (0 : Fin 1)))
    have a1 : (St.start (F := Ideal)).m1 (ix3 (0 : Fin 1) r (0 : Fin 1)) = ((-(13234890 * 2 ^ 76) : ℝ) : EReal) := h41 (hi1.idx (ix3 (0 : Fin 1) r (0 : Fin 1)))
    have h42 : ∀ y : S2x256x1.Idx, k0_pay42 (F := Ideal) y = 0 := pay42_at
    have h43 : ∀ y : S2x256x128.Idx, k0_pay43 (F := Ideal) y = 0 := pay43_at
    have b0 : (St.start (F := Ideal)).l0 (ix3 (0 : Fin 1) r (0 : Fin 1)) = 0 := h42 (lo1.idx (ix3 (0 : Fin 1) r (0 : Fin 1)))
    have b1 : (St.start (F := Ideal)).l1 (ix3 (0 : Fin 1) r (0 : Fin 1)) = 0 := h42 (hi1.idx (ix3 (0 : Fin 1) r (0 : Fin 1)))
    have c0 : (St.start (F := Ideal)).a0 (ix3 (0 : Fin 1) r d) = 0 := h43 (lo128.idx (ix3 (0 : Fin 1) r d))
    have c1 : (St.start (F := Ideal)).a1 (ix3 (0 : Fin 1) r d) = 0 := h43 (hi128.idx (ix3 (0 : Fin 1) r d))
    refine ⟨?_, ?_⟩
    · show Row ((St.start (F := Ideal)).m0 (ix3 (0 : Fin 1) r (0 : Fin 1))) ((St.start (F := Ideal)).l0 (ix3 (0 : Fin 1) r (0 : Fin 1))) ((St.start (F := Ideal)).a0 (ix3 (0 : Fin 1) r d)) 0 0
      rw [a0, b0, c0]; exact z
    · show Row ((St.start (F := Ideal)).m1 (ix3 (0 : Fin 1) r (0 : Fin 1))) ((St.start (F := Ideal)).l1 (ix3 (0 : Fin 1) r (0 : Fin 1))) ((St.start (F := Ideal)).a1 (ix3 (0 : Fin 1) r d)) 0 0
      rw [a1, b1, c1]; exact z
  | succ n ih =>
    obtain ⟨ih0, ih1⟩ := ih (by omega)
    have hn' : n < (k0_t2_loop t).trips := by rw [trips_eq]; omega
    have es := stAt_succ x3 x4 x6 (qs (View.ld x2 (Rect.unit (s := S2048x128) (k0_off1 t) S256x128.size (k0_off1_inb t)))) t ⟨n, hn'⟩
    intro s
    have hs : s = _ := es
    rw [hs]
    have hr := r.isLt
    have hV : ∀ i : Fin 256, View.ld (Val := Elt Ideal) x4 (Rect.unit (s := S2048x128) (k0_off2 t ⟨n, hn'⟩) S256x128.size (k0_off2_inb t ⟨n, hn'⟩)) (ix2 i d) = ((v (256 * n + i) d : ℝ) : EReal) := fun i => by
      rw [ld_keys x4 t ⟨n, hn'⟩ i d ⟨256 * n + i, by omega⟩ rfl, H.hv]
    have hK : ∀ (i : Fin 256) (x : Fin 128), View.ld (Val := Elt Ideal) x3 (Rect.unit (s := S2048x128) (k0_off2 t ⟨n, hn'⟩) S256x128.size (k0_off2_inb t ⟨n, hn'⟩)) (ix2 i x) = ((k (256 * n + i) x : ℝ) : EReal) := fun i x => by
      rw [ld_keys x3 t ⟨n, hn'⟩ i x ⟨256 * n + i, by omega⟩ rfl, H.hk]
    have hQ : ∀ x : Fin 128, View.ld (Val := Elt Ideal) x2 (Rect.unit (s := S2048x128) (k0_off1 t) S256x128.size (k0_off1_inb t)) (ix2 r x) = ((q (256 * t + r) x : ℝ) : EReal) := fun x => by
      rw [ld_rows x2 t r x ⟨256 * t + r, by omega⟩ rfl, H.hq]
    have hB : ∀ i : Fin 256, View.ld (Val := Elt Ideal) x6 (Rect.unit (s := S1x3x256x256) (k0_off3 t ⟨n, hn'⟩) S1x1x256x256.size (k0_off3_inb t ⟨n, hn'⟩)) (ix4 (0 : Fin 1) (0 : Fin 1) r i) = b (256 * t + r) (256 * n + i) := fun i => by
      rw [ld_tile x6 t ⟨n, hn'⟩ r i]
      exact H.tile t n ht (by omega) r i
    have S : ∀ f : ℕ → ℝ, ∑ i ∈ Finset.range (256 * (n + 1)), f i = (∑ i ∈ Finset.range (256 * n), f i) + ∑ i : Fin 256, f (256 * n + i) := fun f => by
      rw [Nat.mul_succ, Finset.sum_range_add, Finset.sum_range (fun x => f (256 * n + x))]
    simp only [S]
    refine ⟨next_lo _ _ _ _ _ r d ih0 (fun i => lg q k b 0 (256 * t + r) (256 * n + i)) (fun i => lg_ne_top q k b H.hb _ _ _) (fun i => ?_) (fun i => v (256 * n + i) d) hV,
      next_hi _ _ _ _ _ r d ih1 (fun i => lg q k b 1 (256 * t + r) (256 * n + i)) (fun i => lg_ne_top q k b H.hb _ _ _) (fun i => ?_) (fun i => v (256 * n + i) d) hV⟩
    · rw [pay6_at, hB]
      simp only [qs_lo, hK, hQ]
      rw [dot_lo (fun x => q (256 * t + r) x) (fun x => k (256 * n + i) x)]
      rfl
    · rw [pay14_at, hB]
      simp only [qs_hi, hK, hQ]
      rw [dot_hi (fun x => q (256 * t + r) x) (fun x => k (256 * n + i) x)]
      rfl

end Cert.KernelIdeal.AttRow
-- ==== Proof.AttRefRows.lean ====
/- The reference's products and biases, at an index. -/
module

public import proofs.«01_k».proof.Proof.Gen.ReferenceIdeal.Run
public import proofs.«01_k».proof.Proof.AttBias
public import proofs.«01_k».proof.Proof.AttRow
public import Idealize.ShloMosaic.Lib.Pointwise

@[expose] public section

set_option maxRecDepth 16384

noncomputable section

namespace Cert.ReferenceIdeal.AttRef

open Idealize.ShloMosaic Idealize.ShloMosaic.TcCoe
open Cert.ReferenceIdeal Cert.ReferenceIdeal.Gen Cert.ReferenceIdeal.Value
open Cert.AttMath Cert.KernelIdeal.AttRow

/-! ## The layout of the operands -/

/-- A query's entry. -/
theorem query_at (X : FVec Ideal S32768x8192 .f32) (b : Fin 16) (t : Fin 2048) (h : Fin 8) (c : Fin 2) (j : Fin 64) :
    (shapeCast S16x2048x8x2x64 (extractStridedSlice S32768x1024 ![0, 0] X slices_S32768x8192_S32768x1024_0_0) shapeCasts_S32768x1024_S16x2048x8x2x64) (ix5 b t h c j)
      = X (ix2 (⟨b * 2048 + t, by omega⟩ : Fin 32768) (⟨h * 128 + c * 64 + j, by omega⟩ : Fin 8192)) := by
  pointwise

/-- A key's entry. -/
theorem key_at (X : FVec Ideal S32768x8192 .f32) (b : Fin 16) (t : Fin 2048) (h : Fin 8) (c : Fin 2) (j : Fin 64) :
    (shapeCast S16x2048x8x2x64 (extractStridedSlice S32768x1024 ![0, 1024] X slices_S32768x8192_S32768x1024_0_1024) shapeCasts_S32768x1024_S16x2048x8x2x64) (ix5 b t h c j)
      = X (ix2 (⟨b * 2048 + t, by omega⟩ : Fin 32768) (⟨1024 + (h * 128 + c * 64 + j), by omega⟩ : Fin 8192)) := by
  pointwise

/-- The product of a query and a key. -/
theorem dot_at (Q K : FVec Ideal S16x2048x8x2x64 .f32) (b : Fin 16) (t s : Fin 2048) (h : Fin 8) (c : Fin 2)  :
    (Host.dotGeneral dot_S16x2048x8x2x64_S16x2048x8x2x64_S16x2x8x2048x2048_4_4_1_1_032_032 none Q K : FVec Ideal S16x2x8x2048x2048 .f32) (ix5 b c h t s)
      = ∑ x : Fin 64, Q (ix5 b t h c x) * K (ix5 b s h c x) := by
  pointwise

/-- The distance of a query and a key. -/
theorem dist_at (V0 : Valuation τ sig (Elt Ideal)) (t s : Fin 2048) :
    res_main_v26 V0 (ix2 t s) = BitVec.ofNat 32 t - BitVec.ofNat 32 s := by
  have e : res_main_v26 V0 (ix2 t s) = IntOp.subi (BitVec.ofNat 32 t) (BitVec.ofNat 32 s) := by
    unfold res_main_v26 res_main_v21
    pointwise
  exact e

/-- A distance's bucket. -/
theorem bucket_at (V0 : Valuation τ sig (Elt Ideal)) (y : S2048x2048.Idx) :
    res_main_v46 V0 y = Cert.AttBias.bkt (res_main_v26 V0 y) := by
  unfold res_main_v46 res_main_v28 Cert.AttBias.bkt Cert.AttBias.near
  generalize res_main_v26 V0 = w
  pointwise

/-- The lookup, at an index. -/
theorem gather_at (x : FVec Ideal S32x8 .f32) (w : IVec S2048x2048x1 32) (t s : Fin 2048) (h : Fin 8) :
    Host.gather gather_S32x8_S2048x2048x1_S2048x2048x8_2_0_n_n_0_2_18 x w (ix3 t s h) = x (ix2 ⟨min (w (ix3 t s (0 : Fin 1))).toInt.toNat (32 - 1), by omega⟩ h) := by
  unfold Host.gather
  congr 1
  funext a
  refine Fin.ext ?_
  show GatherDims.start _ _ w a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S2048x2048x1_S2048x2048x8_2_0_n_n_0_2_18.startIndexMap from List.mem_singleton.mpr rfl)]
    have hsi : gather_S32x8_S2048x2048x1_S2048x2048x8_2_0_n_n_0_2_18.siIdx (ix3 t s h) ⟨List.idxOf (0 : Fin 2) gather_S32x8_S2048x2048x1_S2048x2048x8_2_0_n_n_0_2_18.startIndexMap,
        List.idxOf_lt_length_iff.2 (List.mem_singleton.mpr rfl)⟩ = ix3 t s (0 : Fin 1) := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ gather_S32x8_S2048x2048x1_S2048x2048x8_2_0_n_n_0_2_18.startIndexMap from by decide)]
    rw [Nat.zero_add]
    rfl

/-- The table's columns of this group. -/
theorem columns_at (T : FVec Ideal S32x16 .f32) (a : Fin 32) (h : Fin 8) : extractStridedSlice S32x8 ![0, 0] T slices_S32x16_S32x8_0_0 (ix2 a h) = T (ix2 a (⟨h, by omega⟩ : Fin 16)) := by
  pointwise

/-- The lookup of words `w` in the table. -/
theorem pick_at (T : FVec Ideal S32x16 .f32) (w : IVec S2048x2048 32) (t s : Fin 2048) (h : Fin 8) :
    transpose S8x2048x2048 [2, 0, 1] (Host.gather gather_S32x8_S2048x2048x1_S2048x2048x8_2_0_n_n_0_2_18 (extractStridedSlice S32x8 ![0, 0] T slices_S32x16_S32x8_0_0)
      (broadcastInDim S2048x2048x1 ![0, 1] bcast_S2048x2048_S2048x2048x1_0_1 w)) transposes_S2048x2048x8_S8x2048x2048_2_0_1 (ix3 h t s)
      = T (ix2 ⟨min (w (ix2 t s)).toInt.toNat (32 - 1), by omega⟩ (⟨h, by omega⟩ : Fin 16)) := by
  have e2 : broadcastInDim S2048x2048x1 ![0, 1] bcast_S2048x2048_S2048x2048x1_0_1 w (ix3 t s (0 : Fin 1)) = w (ix2 t s) := by pointwise
  generalize hx : extractStridedSlice S32x8 ![0, 0] T slices_S32x16_S32x8_0_0 = x
  generalize hz : broadcastInDim S2048x2048x1 ![0, 1] bcast_S2048x2048_S2048x2048x1_0_1 w = z at e2
  have e : transpose S8x2048x2048 [2, 0, 1] (Host.gather gather_S32x8_S2048x2048x1_S2048x2048x8_2_0_n_n_0_2_18 x z) transposes_S2048x2048x8_S8x2048x2048_2_0_1 (ix3 h t s)
      = Host.gather gather_S32x8_S2048x2048x1_S2048x2048x8_2_0_n_n_0_2_18 x z (ix3 t s h) := by
    generalize Host.gather _ _ _ = Z
    pointwise
  rw [e, gather_at, ← hx, columns_at]
  simp only [e2]

/-- The logits, their exponentials, the softmax weights and the weighted values. -/
abbrev logits (V0 : Valuation τ sig (Elt Ideal)) : FVec Ideal S16x2x8x2048x2048 .f32 := res_main_v63 V0
abbrev exps (V0 : Valuation τ sig (Elt Ideal)) : FVec Ideal S16x2x8x2048x2048 .f32 := res_main_v70 V0
abbrev weights (V0 : Valuation τ sig (Elt Ideal)) : FVec Ideal S16x2x8x2048x2048 .f32 := res_main_v74 V0
abbrev mixed (V0 : Valuation τ sig (Elt Ideal)) : FVec Ideal S16x2048x8x128 .f32 := res_main_v83 V0
/-- The words looked up. -/
def words (V0 : Valuation τ sig (Elt Ideal)) : IVec S2048x2048 32 :=
  select (cmpi .slt (res_main_v46 V0) (broadcastInDim S2048x2048 ![] bcast_S_S2048x2048 (constantI S_ 32 0#32))) (addi (res_main_v46 V0) (broadcastInDim S2048x2048 ![] bcast_S_S2048x2048 (constantI S_ 32 32#32))) (res_main_v46 V0)

theorem words_at (V0 : Valuation τ sig (Elt Ideal)) (y : S2048x2048.Idx) : words V0 y = Cert.AttBias.rowOf (res_main_v26 V0 y) := by
  have e : words V0 y = Scalar.select (IntOp.cmpi .slt (res_main_v46 V0 y) 0#32) (IntOp.addi (res_main_v46 V0 y) 32#32) (res_main_v46 V0 y) := by
    unfold words
    generalize res_main_v46 V0 = w
    pointwise
  rw [e, bucket_at]
  rfl

theorem rowNo_eq (V0 : Valuation τ sig (Elt Ideal)) (y : S2048x2048.Idx) (h : min (words V0 y).toInt.toNat (32 - 1) < 32) :
    (⟨min (words V0 y).toInt.toNat (32 - 1), h⟩ : Fin 32) = Cert.AttBias.rowNo (res_main_v26 V0 y) :=
  Fin.ext (congrArg (fun w : BitVec 32 => min w.toInt.toNat (32 - 1)) (words_at V0 y))

/-- The bias table, as the reference's argument. -/
abbrev table (V0 : Valuation τ sig (Elt Ideal)) : FVec Ideal S32x16 .f32 := V0 (Proc.devRef .tc main_arg1)
/-- The queries, keys, values and gates. -/
abbrev rows (V0 : Valuation τ sig (Elt Ideal)) : FVec Ideal S32768x8192 .bf16 := V0 (Proc.devRef .tc main_arg0)

/-- The biases before masking. -/
def biases (V0 : Valuation τ sig (Elt Ideal)) : FVec Ideal S8x2048x2048 .f32 :=
  transpose S8x2048x2048 [2, 0, 1] (Host.gather gather_S32x8_S2048x2048x1_S2048x2048x8_2_0_n_n_0_2_18 (extractStridedSlice S32x8 ![0, 0] (table V0) slices_S32x16_S32x8_0_0)
      (broadcastInDim S2048x2048x1 ![0, 1] bcast_S2048x2048_S2048x2048x1_0_1 (words V0))) transposes_S2048x2048x8_S8x2048x2048_2_0_1

/-- The rows, widened. -/
abbrev wide (V0 : Valuation τ sig (Elt Ideal)) : FVec Ideal S32768x8192 .f32 := res_main_v0 V0

/-- The products. -/
def prods (V0 : Valuation τ sig (Elt Ideal)) : FVec Ideal S16x2x8x2048x2048 .f32 :=
  Host.dotGeneral dot_S16x2048x8x2x64_S16x2048x8x2x64_S16x2x8x2048x2048_4_4_1_1_032_032 none (shapeCast _ (extractStridedSlice S32768x1024 ![0, 0] (wide V0) slices_S32768x8192_S32768x1024_0_0) shapeCasts_S32768x1024_S16x2048x8x2x64) (shapeCast _ (extractStridedSlice S32768x1024 ![0, 1024] (wide V0) slices_S32768x8192_S32768x1024_0_1024) shapeCasts_S32768x1024_S16x2048x8x2x64)

theorem logits_eq (V0 : Valuation τ sig (Elt Ideal)) : logits V0 = (select (broadcastInDim S16x2x8x2048x2048 ![3, 4] bcast_S2048x2048_S16x2x8x2048x2048_3_4 (cmpi .sge (res_main_v26 V0) (broadcastInDim S2048x2048 ![] bcast_S_S2048x2048 (constantI S_ 32 0#32)))) (addf (mulf (prods V0) (broadcastInDim S16x2x8x2048x2048 ![] bcast_S_S16x2x8x2048x2048 (constant S_ .f32 0x3E000000#32))) (broadcastInDim S16x2x8x2048x2048 ![0, 1, 2, 3, 4] bcast_S1x1x8x2048x2048_S16x2x8x2048x2048_0_1_2_3_4 (broadcastInDim S1x1x8x2048x2048 ![2, 3, 4] bcast_S8x2048x2048_S1x1x8x2048x2048_2_3_4 (biases V0)))) (broadcastInDim S16x2x8x2048x2048 ![] bcast_S_S16x2x8x2048x2048 (id (constant S_ .f32 0xFF800000#32))) : FVec Ideal S16x2x8x2048x2048 .f32) := rfl

attribute [local irreducible] Cert.AttBias.rowNo words

theorem biases_at (V0 : Valuation τ sig (Elt Ideal)) (h : Fin 8) (t s : Fin 2048) :
    biases V0 (ix3 h t s) = table V0 (ix2 (Cert.AttBias.rowNo (BitVec.ofNat 32 t - BitVec.ofNat 32 s)) (⟨h, by omega⟩ : Fin 16)) := by
  rw [← dist_at V0, ← rowNo_eq V0 (ix2 t s) (by omega)]
  exact pick_at (table V0) (words V0) t s h

theorem prods_at (V0 : Valuation τ sig (Elt Ideal)) (b : Fin 16) (t s : Fin 2048) (h : Fin 8) (c : Fin 2) :
    prods V0 (ix5 b c h t s) = ∑ j : Fin 64, rows V0 (ix2 (⟨b * 2048 + t, by omega⟩ : Fin 32768) (⟨h * 128 + c * 64 + j, by omega⟩ : Fin 8192))
      * rows V0 (ix2 (⟨b * 2048 + s, by omega⟩ : Fin 32768) (⟨1024 + (h * 128 + c * 64 + j), by omega⟩ : Fin 8192)) := by
  unfold prods
  rw [dot_at]
  exact Finset.sum_congr rfl fun j _ => congrArg₂ (· * ·) (query_at _ b t h c j) (key_at _ b s h c j)

/-! ## The logits -/

theorem logit_cases (V0 : Valuation τ sig (Elt Ideal)) (b : Fin 16) (t s : Fin 2048) (h : Fin 8) (c : Fin 2)  :
    logits V0 (ix5 b c h t s) = Scalar.select (IntOp.cmpi .sge (res_main_v26 V0 (ix2 t s)) 0#32) (prods V0 (ix5 b c h t s) * Ideal.ofBits .f32 1040187392#32 + biases V0 (ix3 h t s)) (Ideal.ofBits .f32 4286578688#32) := by
  rw [logits_eq]
  generalize prods V0 = D
  generalize biases V0 = B
  generalize res_main_v26 V0 = E
  pointwise
  rfl

end Cert.ReferenceIdeal.AttRef
-- ==== Proof.AttRef.lean ====
/- The reference's attention, at an index. -/
module

public import proofs.«01_k».proof.Proof.Gen.ReferenceIdeal.Run
public import proofs.«01_k».proof.Proof.AttBias
public import proofs.«01_k».proof.Proof.AttRow
public import proofs.«01_k».proof.Proof.AttRefRows
public import Idealize.ShloMosaic.Lib.Pointwise

@[expose] public section

set_option maxRecDepth 16384

noncomputable section

namespace Cert.ReferenceIdeal.AttRef

open Idealize.ShloMosaic Idealize.ShloMosaic.TcCoe
open Cert.ReferenceIdeal Cert.ReferenceIdeal.Gen Cert.ReferenceIdeal.Value
open Cert.AttMath Cert.KernelIdeal.AttRow

/-- What the arguments hold: real queries, keys and values, and a table without infinities. -/
structure Data (V0 : Valuation τ sig (Elt Ideal)) (q k v : ℕ → ℕ → ℕ → ℕ → ℝ) : Prop where
  hq : ∀ (b : Fin 16) (h : Fin 8) (i : Fin 2048) (j : Fin 128), rows V0 (ix2 (⟨b * 2048 + i, by omega⟩ : Fin 32768) (⟨h * 128 + j, by omega⟩ : Fin 8192)) = ((q b h i j : ℝ) : EReal)
  hk : ∀ (b : Fin 16) (h : Fin 8) (i : Fin 2048) (j : Fin 128), rows V0 (ix2 (⟨b * 2048 + i, by omega⟩ : Fin 32768) (⟨1024 + (h * 128 + j), by omega⟩ : Fin 8192)) = ((k b h i j : ℝ) : EReal)
  hv : ∀ (b : Fin 16) (h : Fin 8) (i : Fin 2048) (j : Fin 128), rows V0 (ix2 (⟨b * 2048 + i, by omega⟩ : Fin 32768) (⟨2048 + (h * 128 + j), by omega⟩ : Fin 8192)) = ((v b h i j : ℝ) : EReal)
  top : ∀ (a : Fin 32) (h : Fin 8), table V0 (ix2 a (⟨h, by omega⟩ : Fin 16)) ≠ ⊤
  bot : ∀ (a : Fin 32) (h : Fin 8), table V0 (ix2 a (⟨h, by omega⟩ : Fin 16)) ≠ ⊥

/-- A head's column of the table. -/
def column (V0 : Valuation τ sig (Elt Ideal)) (h : Fin 8) : Fin 32 → EReal := fun a => table V0 (ix2 a (⟨h, by omega⟩ : Fin 16))

variable {V0 : Valuation τ sig (Elt Ideal)} {q k v : ℕ → ℕ → ℕ → ℕ → ℝ}

/-- A logit. -/
theorem logit_at (H : Data V0 q k v) (b : Fin 16) (t s : Fin 2048) (h : Fin 8) (c : Fin 2) :
    logits V0 (ix5 b c h t s) = lg (q b h) (k b h) (Cert.AttBias.bias (column V0 h)) c t s := by
  have e : prods V0 (ix5 b c h t s) * Ideal.ofBits .f32 1040187392#32 = ((prod (q b h) (k b h) c t s : ℝ) : EReal) := by
    rw [prods_at, Cert.Consts.ofBits_eighth]
    have e1 : ∀ j : Fin 64, rows V0 (ix2 (⟨b * 2048 + t, by omega⟩ : Fin 32768) (⟨h * 128 + c * 64 + j, by omega⟩ : Fin 8192))
        * rows V0 (ix2 (⟨b * 2048 + s, by omega⟩ : Fin 32768) (⟨1024 + (h * 128 + c * 64 + j), by omega⟩ : Fin 8192)) = ((q b h t (64 * c + j) * k b h s (64 * c + j) : ℝ) : EReal) := fun j => by
      have h1 := H.hq b h t (⟨64 * c + j, by omega⟩ : Fin 128)
      have h2 := H.hk b h s (⟨64 * c + j, by omega⟩ : Fin 128)
      rw [EReal.coe_mul, ← h1, ← h2]
      congr 4 <;> (simp only []; omega)
    rw [Finset.sum_congr rfl fun j _ => e1 j, sum_coe, ← EReal.coe_mul]
    rfl
  rw [logit_cases, e, biases_at, dist_at, Cert.AttBias.sge_sub _ _ (by omega) (by omega), Cert.Consts.ofBits_neg_inf]
  unfold lg Cert.AttBias.bias
  by_cases hs : s.val ≤ t.val
  · rw [if_pos hs, if_pos hs]
    rfl
  · rw [if_neg hs, if_neg hs, EReal.add_bot]
    rfl

theorem logit_ne_top (H : Data V0 q k v) (b : Fin 16) (t s : Fin 2048) (h : Fin 8) (c : Fin 2) : logits V0 (ix5 b c h t s) ≠ ⊤ := by
  rw [logit_at H]
  exact lg_ne_top _ _ _ (Cert.AttBias.bias_ne_top _ fun a => H.top a h) _ _ _

/-- A query's logit against itself is no infinity. -/
theorem self_ne_bot (H : Data V0 q k v) (b : Fin 16) (t : Fin 2048) (h : Fin 8) (c : Fin 2) : lg (q b h) (k b h) (Cert.AttBias.bias (column V0 h)) c t t ≠ ⊥ := by
  unfold lg Cert.AttBias.bias
  rw [if_pos le_rfl]
  intro he
  rcases EReal.add_eq_bot_iff.mp he with e | e
  · exact EReal.coe_ne_bot _ e
  · exact H.bot _ h e

/-! ## The weights -/

/-- A row's largest logit, of a row of no positive infinity and one entry that is no negative one. -/
theorem top_real {s t u : Shape} {axes : List (Fin s.rank)} (x : FVec Ideal s .f32) (init : FVec Ideal u .f32) (h : s.ReducesTo axes t) (hu : 0 < u.numel) (j : t.Idx)
    (hi : init (Shape.Idx.first hu) = Ideal.ofBits .f32 4286578688#32) (hx : ∀ i, x i ≠ (⊤ : EReal)) (i : s.Idx) (hij : h.drop i = j) (hb : x i ≠ (⊥ : EReal)) :
    ∃ M : ℝ, Host.reduce FloatOps.maximumf x init h hu j = (M : EReal) := by
  have e : Host.reduce FloatOps.maximumf x init h hu j = Finset.fold max (Ideal.ofBits .f32 4286578688#32) x (Finset.univ.filter fun i => h.drop i = j) := by
    rw [← hi]
    exact Host.reduce_eq_fold (max : EReal → EReal → EReal) x init h hu j
  rw [e]
  have h1 := fold_ne_top (Finset.univ.filter fun i => h.drop i = j) x hx
  have h2 : (x i : EReal) ≤ Finset.fold max (Ideal.ofBits .f32 4286578688#32) x (Finset.univ.filter fun i => h.drop i = j) :=
    (Finset.le_fold_max _).mpr (Or.inr ⟨i, Finset.mem_filter.mpr ⟨Finset.mem_univ _, hij⟩, le_rfl⟩)
  generalize Finset.fold max (Ideal.ofBits .f32 4286578688#32) x (Finset.univ.filter fun i => h.drop i = j) = M at h1 h2 ⊢
  have h3 : M ≠ (⊥ : EReal) := fun e => hb (le_bot_iff.mp (e ▸ h2))
  exact ⟨EReal.toReal M, (EReal.coe_toReal h1 h3).symm⟩

/-- Every row's largest logit. -/
def tops (V0 : Valuation τ sig (Elt Ideal)) : FVec Ideal S16x2x8x2048 .f32 :=
  Host.reduce FloatOps.maximumf (logits V0) (constant S_ .f32 0xFF800000#32) reducesTo_S16x2x8x2048x2048_S16x2x8x2048_d4 h_S_

/-- The number every exponential of a row is taken less. -/
def shifts (V0 : Valuation τ sig (Elt Ideal)) : FVec Ideal S16x2x8x2048 .f32 := maximumf (broadcastInDim S16x2x8x2048 ![] bcast_S_S16x2x8x2048 (constant S_ .f32 0xFF800000#32)) (tops V0)

theorem larger_at (R : FVec Ideal S16x2x8x2048 .f32) (i : S16x2x8x2048.Idx) :
    maximumf (broadcastInDim S16x2x8x2048 ![] bcast_S_S16x2x8x2048 (constant S_ .f32 0xFF800000#32)) R i = (max (Ideal.ofBits .f32 4286578688#32 : EReal) (R i : EReal) : EReal) := rfl

attribute [local irreducible] tops

theorem shifts_at (b : Fin 16) (t : Fin 2048) (h : Fin 8) (c : Fin 2) : (shifts V0 (ix4 b c h t) : EReal) = (max (Ideal.ofBits .f32 4286578688#32 : EReal) (tops V0 (ix4 b c h t) : EReal) : EReal) := by
  unfold shifts
  exact larger_at (tops V0) _

attribute [local semireducible] tops

theorem exps_eq (V0 : Valuation τ sig (Elt Ideal)) : exps V0 = Host.exp (subf (logits V0) (broadcastInDim S16x2x8x2048x2048 ![0, 1, 2, 3, 4] bcast_S16x2x8x2048x1_S16x2x8x2048x2048_0_1_2_3_4 (broadcastInDim S16x2x8x2048x1 ![0, 1, 2, 3] bcast_S16x2x8x2048_S16x2x8x2048x1_0_1_2_3 (shifts V0)))) := rfl

/-- The exponential of a row less a number of its own. -/
theorem exp_sub_at (E : FVec Ideal S16x2x8x2048x2048 .f32) (R : FVec Ideal S16x2x8x2048 .f32) (b : Fin 16) (t s : Fin 2048) (h : Fin 8) (c : Fin 2) :
    Host.exp (subf E (broadcastInDim S16x2x8x2048x2048 ![0, 1, 2, 3, 4] bcast_S16x2x8x2048x1_S16x2x8x2048x2048_0_1_2_3_4 (broadcastInDim S16x2x8x2048x1 ![0, 1, 2, 3] bcast_S16x2x8x2048_S16x2x8x2048x1_0_1_2_3 R))) (ix5 b c h t s)
      = Ideal.exp (E (ix5 b c h t s) - R (ix4 b c h t)) := by
  pointwise

theorem exp_at (b : Fin 16) (t s : Fin 2048) (h : Fin 8) (c : Fin 2)  :
    exps V0 (ix5 b c h t s) = Ideal.exp (logits V0 (ix5 b c h t s) - (max (Ideal.ofBits .f32 4286578688#32 : EReal) (tops V0 (ix4 b c h t) : EReal) : EReal)) := by
  rw [← shifts_at, exps_eq]
  exact exp_sub_at (logits V0) (shifts V0) b t s h c

/-- An index is its coordinates. -/
theorem ix5_eq (i : S16x2x8x2048x2048.Idx) : i = ix5 (i 0) (i 1) (i 2) (i 3) (i 4) := by
  funext a
  match a with
  | ⟨0, _⟩ => rfl
  | ⟨1, _⟩ => rfl
  | ⟨2, _⟩ => rfl
  | ⟨3, _⟩ => rfl
  | ⟨4, _⟩ => rfl

theorem drop_eq (b : Fin 16) (t s : Fin 2048) (h : Fin 8) (c : Fin 2) : reducesTo_S16x2x8x2048x2048_S16x2x8x2048_d4.drop (ix5 b c h t s) = ix4 b c h t := by
  funext a
  match a with
  | ⟨0, _⟩ => rfl
  | ⟨1, _⟩ => rfl
  | ⟨2, _⟩ => rfl
  | ⟨3, _⟩ => rfl

/-- The row's largest logit is a real. -/
theorem max_real (H : Data V0 q k v) (b : Fin 16) (t : Fin 2048) (h : Fin 8) (c : Fin 2) : ∃ M : ℝ, (max (Ideal.ofBits .f32 4286578688#32 : EReal) (tops V0 (ix4 b c h t) : EReal) : EReal) = (M : EReal) := by
  have hf : ∀ i : S16x2x8x2048x2048.Idx, logits V0 i ≠ (⊤ : EReal) := fun i => by
    rw [ix5_eq i]
    exact logit_ne_top H _ _ _ _ _
  rw [Cert.Consts.ofBits_neg_inf, max_eq_right bot_le]
  refine top_real (logits V0) _ _ _ _ rfl hf (ix5 b c h t t) (drop_eq b t t h c) ?_
  rw [logit_at H]
  exact self_ne_bot H b t h c

theorem weights_eq (V0 : Valuation τ sig (Elt Ideal)) : weights V0 = Host.divf (exps V0) (broadcastInDim S16x2x8x2048x2048 ![0, 1, 2, 3, 4] bcast_S16x2x8x2048x1_S16x2x8x2048x2048_0_1_2_3_4 (broadcastInDim S16x2x8x2048x1 ![0, 1, 2, 3] bcast_S16x2x8x2048_S16x2x8x2048x1_0_1_2_3 (Host.reduceAdd (exps V0) (constant S_ .f32 0x00000000#32) reducesTo_S16x2x8x2048x2048_S16x2x8x2048_d4 h_S_))) := rfl

theorem quot_at (b : Fin 16) (t s : Fin 2048) (h : Fin 8) (c : Fin 2)  :
    weights V0 (ix5 b c h t s) = Ideal.div (exps V0 (ix5 b c h t s)) (∑ x : Fin 2048, exps V0 (ix5 b c h t x)) := by
  rw [weights_eq]
  generalize exps V0 = E
  pointwise

/-- The row's weights sum to a positive number. -/
theorem sum_pos (H : Data V0 q k v) (b : Fin 16) (t : Fin 2048) (h : Fin 8) (c : Fin 2) :
    0 < ∑ x : Fin 2048, wt (lg (q b h) (k b h) (Cert.AttBias.bias (column V0 h)) c t x) := by
  refine Finset.sum_pos' (fun i _ => wt_nonneg _) ⟨t, Finset.mem_univ _, ?_⟩
  have h1 := lg_ne_top (q b h) (k b h) (Cert.AttBias.bias (column V0 h)) (Cert.AttBias.bias_ne_top _ fun a => H.top a h) c t t
  have h2 := self_ne_bot H b t h c
  rw [← EReal.coe_toReal h1 h2, wt_coe]
  exact Real.exp_pos _

/-- A softmax weight. -/
theorem weight_at (H : Data V0 q k v) (b : Fin 16) (t s : Fin 2048) (h : Fin 8) (c : Fin 2) :
    weights V0 (ix5 b c h t s) = ((wt (lg (q b h) (k b h) (Cert.AttBias.bias (column V0 h)) c t s) / ∑ x : Fin 2048, wt (lg (q b h) (k b h) (Cert.AttBias.bias (column V0 h)) c t x) : ℝ) : EReal) := by
  obtain ⟨M, hM⟩ := max_real H b t h c
  have e : ∀ x : Fin 2048, exps V0 (ix5 b c h t x) = Ideal.exp (lg (q b h) (k b h) (Cert.AttBias.bias (column V0 h)) c t x - (M : EReal)) := fun x => by
    rw [exp_at, hM, logit_at H]
  rw [quot_at]
  simp only [e]
  exact soft (fun x : Fin 2048 => lg (q b h) (k b h) (Cert.AttBias.bias (column V0 h)) c t x)
    (fun x => lg_ne_top _ _ _ (Cert.AttBias.bias_ne_top _ fun a => H.top a h) _ _ _) M (sum_pos H b t h c).ne' s

/-! ## The weighted values -/

/-- The four vectors of the balance. -/
abbrev vec2 (V0 : Valuation τ sig (Elt Ideal)) : FVec Ideal S1x64 .f32 := V0 (Proc.devRef .tc main_arg2)
abbrev vec3 (V0 : Valuation τ sig (Elt Ideal)) : FVec Ideal S1x64 .f32 := V0 (Proc.devRef .tc main_arg3)
abbrev vec4 (V0 : Valuation τ sig (Elt Ideal)) : FVec Ideal S1x64 .f32 := V0 (Proc.devRef .tc main_arg4)
abbrev vec5 (V0 : Valuation τ sig (Elt Ideal)) : FVec Ideal S1x64 .f32 := V0 (Proc.devRef .tc main_arg5)
/-- The balance of the two halves. -/
def lam (V0 : Valuation τ sig (Elt Ideal)) : FVec Ideal S_ .f32 :=
  addf (subf (Host.exp (Host.reduceAdd (mulf (shapeCast _ (vec2 V0) shapeCasts_S1x64_S64) (shapeCast _ (vec3 V0) shapeCasts_S1x64_S64)) (constant S_ .f32 0x00000000#32) reducesTo_S64_S_d0 h_S_)) (Host.exp (Host.reduceAdd (mulf (shapeCast _ (vec4 V0) shapeCasts_S1x64_S64) (shapeCast _ (vec5 V0) shapeCasts_S1x64_S64)) (constant S_ .f32 0x00000000#32) reducesTo_S64_S_d0 h_S_))) (constant S_ .f32 0x3E4CCCCD#32)

theorem lam_at (V0 : Valuation τ sig (Elt Ideal)) : lam V0 ix0 = Ideal.exp (∑ j : Fin 64, vec2 V0 (ix2 (0 : Fin 1) j) * vec3 V0 (ix2 (0 : Fin 1) j))
    - Ideal.exp (∑ j : Fin 64, vec4 V0 (ix2 (0 : Fin 1) j) * vec5 V0 (ix2 (0 : Fin 1) j)) + Ideal.ofBits .f32 1045220557#32 := by
  unfold lam
  generalize vec2 V0 = a
  generalize vec3 V0 = b
  generalize vec4 V0 = c
  generalize vec5 V0 = d
  pointwise

/-- The values, as the product with the weights takes them. -/
def vals (V0 : Valuation τ sig (Elt Ideal)) : FVec Ideal S16x2048x8x128 .f32 := shapeCast S16x2048x8x128 (extractStridedSlice S32768x1024 ![0, 2048] (wide V0) slices_S32768x8192_S32768x1024_0_2048) shapeCasts_S32768x1024_S16x2048x8x128

theorem vals_at (b : Fin 16) (t : Fin 2048) (h : Fin 8) (d : Fin 128) : vals V0 (ix4 b t h d) = wide V0 (ix2 (⟨b * 2048 + t, by omega⟩ : Fin 32768) (⟨2048 + (h * 128 + d), by omega⟩ : Fin 8192)) := by
  unfold vals
  generalize wide V0 = X
  pointwise

/-- A half of the weights. -/
theorem half0_at (E : FVec Ideal S16x2x8x2048x2048 .f32) (b : Fin 16) (t s : Fin 2048) (h : Fin 8) :
    shapeCast S16x8x2048x2048 (extractStridedSlice S16x1x8x2048x2048 ![0, 0, 0, 0, 0] E slices_S16x2x8x2048x2048_S16x1x8x2048x2048_0_0_0_0_0) shapeCasts_S16x1x8x2048x2048_S16x8x2048x2048 (ix4 b h t s) = E (ix5 b (0 : Fin 2) h t s) := by
  pointwise
theorem half1_at (E : FVec Ideal S16x2x8x2048x2048 .f32) (b : Fin 16) (t s : Fin 2048) (h : Fin 8) :
    shapeCast S16x8x2048x2048 (extractStridedSlice S16x1x8x2048x2048 ![0, 1, 0, 0, 0] E slices_S16x2x8x2048x2048_S16x1x8x2048x2048_0_1_0_0_0) shapeCasts_S16x1x8x2048x2048_S16x8x2048x2048 (ix4 b h t s) = E (ix5 b (1 : Fin 2) h t s) := by
  pointwise

/-- The difference of the two halves' weights. -/
def diffs (V0 : Valuation τ sig (Elt Ideal)) : FVec Ideal S16x8x2048x2048 .f32 := subf (shapeCast S16x8x2048x2048 (extractStridedSlice S16x1x8x2048x2048 ![0, 0, 0, 0, 0] (weights V0) slices_S16x2x8x2048x2048_S16x1x8x2048x2048_0_0_0_0_0) shapeCasts_S16x1x8x2048x2048_S16x8x2048x2048) (mulf (broadcastInDim S16x8x2048x2048 ![] bcast_S_S16x8x2048x2048 (lam V0)) (shapeCast S16x8x2048x2048 (extractStridedSlice S16x1x8x2048x2048 ![0, 1, 0, 0, 0] (weights V0) slices_S16x2x8x2048x2048_S16x1x8x2048x2048_0_1_0_0_0) shapeCasts_S16x1x8x2048x2048_S16x8x2048x2048))

theorem sub_mul_at (A B : FVec Ideal S16x8x2048x2048 .f32) (L : FVec Ideal S_ .f32) (b : Fin 16) (t s : Fin 2048) (h : Fin 8) :
    subf A (mulf (broadcastInDim S16x8x2048x2048 ![] bcast_S_S16x8x2048x2048 L) B) (ix4 b h t s) = A (ix4 b h t s) - L ix0 * B (ix4 b h t s) := by
  pointwise

theorem diffs_at (b : Fin 16) (t s : Fin 2048) (h : Fin 8) : diffs V0 (ix4 b h t s) = weights V0 (ix5 b (0 : Fin 2) h t s) - lam V0 ix0 * weights V0 (ix5 b (1 : Fin 2) h t s) := by
  unfold diffs
  rw [sub_mul_at, half0_at, half1_at]

theorem mix_dot_at (A : FVec Ideal S16x2048x8x128 .f32) (B : FVec Ideal S16x8x2048x2048 .f32) (b : Fin 16) (t : Fin 2048) (h : Fin 8) (d : Fin 128) :
    (Host.dotGeneral dot_S16x2048x8x128_S16x8x2048x2048_S16x8x128x2048_1_3_3_2_02_01 none A B : FVec Ideal S16x8x128x2048 .f32) (ix4 b h d t) = ∑ x : Fin 2048, A (ix4 b x h d) * B (ix4 b h t x) := by
  pointwise

theorem turned_at (A : FVec Ideal S16x8x128x2048 .f32) (b : Fin 16) (t : Fin 2048) (h : Fin 8) (d : Fin 128) :
    transpose S16x2048x8x128 [0, 3, 1, 2] A transposes_S16x8x128x2048_S16x2048x8x128_0_3_1_2 (ix4 b t h d) = A (ix4 b h d t) := by
  pointwise

theorem mixed_eq (V0 : Valuation τ sig (Elt Ideal)) : mixed V0 = transpose S16x2048x8x128 [0, 3, 1, 2] (Host.dotGeneral dot_S16x2048x8x128_S16x8x2048x2048_S16x8x128x2048_1_3_3_2_02_01 none (vals V0) (diffs V0)) transposes_S16x8x128x2048_S16x2048x8x128_0_3_1_2 := rfl

theorem mix_cases (b : Fin 16) (t : Fin 2048) (h : Fin 8) (d : Fin 128) :
    mixed V0 (ix4 b t h d) = ∑ x : Fin 2048, wide V0 (ix2 (⟨b * 2048 + x, by omega⟩ : Fin 32768) (⟨2048 + (h * 128 + d), by omega⟩ : Fin 8192))
      * (weights V0 (ix5 b (0 : Fin 2) h t x) - lam V0 ix0 * weights V0 (ix5 b (1 : Fin 2) h t x)) := by
  rw [mixed_eq, turned_at, mix_dot_at]
  exact Finset.sum_congr rfl fun x _ => congrArg₂ (· * ·) (vals_at b x h d) (diffs_at b t x h)

/-- The difference of the two halves' weighted means. -/
theorem mix_at (H : Data V0 q k v) (l : ℝ) (hl : lam V0 ix0 = (l : EReal)) (b : Fin 16) (t : Fin 2048) (h : Fin 8) (d : Fin 128) :
    mixed V0 (ix4 b t h d)
      = (((∑ x : Fin 2048, wt (lg (q b h) (k b h) (Cert.AttBias.bias (column V0 h)) 0 t x) * v b h x d) / (∑ x : Fin 2048, wt (lg (q b h) (k b h) (Cert.AttBias.bias (column V0 h)) 0 t x))
        - l * ((∑ x : Fin 2048, wt (lg (q b h) (k b h) (Cert.AttBias.bias (column V0 h)) 1 t x) * v b h x d) / (∑ x : Fin 2048, wt (lg (q b h) (k b h) (Cert.AttBias.bias (column V0 h)) 1 t x))) : ℝ) : EReal) := by
  rw [mix_cases]
  have w0 := fun x => weight_at H b t x h 0
  have w1 := fun x => weight_at H b t x h 1
  simp only [w0, w1, hl]
  have hv : ∀ x : Fin 2048, wide V0 (ix2 (⟨b * 2048 + x, by omega⟩ : Fin 32768) (⟨2048 + (h * 128 + d), by omega⟩ : Fin 8192)) = ((v b h x d : ℝ) : EReal) := fun x => H.hv b h x d
  simp only [hv, ← EReal.coe_mul, ← EReal.coe_sub]
  rw [sum_coe]
  congr 1
  simp only [Fin.val_zero, Fin.val_one]
  generalize (∑ x : Fin 2048, wt (lg (q b h) (k b h) (Cert.AttBias.bias (column V0 h)) 0 t x)) = L0
  generalize (∑ x : Fin 2048, wt (lg (q b h) (k b h) (Cert.AttBias.bias (column V0 h)) 1 t x)) = L1
  rw [Finset.sum_div, Finset.sum_div, Finset.mul_sum, ← Finset.sum_sub_distrib]
  refine Finset.sum_congr rfl fun x _ => ?_
  ring

/-! ## The result -/

/-- The norm's result over the weighted values `Y` and the gain `G`. -/
def normed (Y : FVec Ideal S16x2048x8x128 .f32) (G : FVec Ideal S1x128 .f32) : FVec Ideal S16x2048x8x128 .f32 :=
  mulf (mulf (mulf Y (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf Y Y) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 (shapeCast S128 G shapeCasts_S1x128_S128)))) (broadcastInDim S16x2048x8x128 ![] bcast_S_S16x2048x8x128 (constant S_ .f32 0x3F4CCCCD#32))

theorem normed_at (Y : FVec Ideal S16x2048x8x128 .f32) (G : FVec Ideal S1x128 .f32) (b : Fin 16) (t : Fin 2048) (h : Fin 8) (d : Fin 128) :
    normed Y G (ix4 b t h d) = nrm (fun d => Y (ix4 b t h d)) (fun d => G (ix2 (0 : Fin 1) d)) d := by
  unfold normed nrm
  pointwise

/-- The gated result over the norm's `N` and the gate `Z`. -/
def gated (N : FVec Ideal S16x2048x8x128 .f32) (Z : FVec Ideal S32768x1024 .f32) : FVec Ideal S32768x1024 .bf16 :=
  truncf .bf16 (mulf (shapeCast S32768x1024 N shapeCasts_S16x2048x8x128_S32768x1024) (mulf Z (Host.divf (broadcastInDim S32768x1024 ![] bcast_S_S32768x1024 (constant S_ .f32 0x3F800000#32)) (addf (broadcastInDim S32768x1024 ![] bcast_S_S32768x1024 (constant S_ .f32 0x3F800000#32)) (Host.exp (Host.negf Z)))))) bitsLt_bf16_f32

theorem gated_at (N : FVec Ideal S16x2048x8x128 .f32) (Z : FVec Ideal S32768x1024 .f32) (b : Fin 16) (t : Fin 2048) (h : Fin 8) (d : Fin 128) :
    gated N Z (ix2 (⟨b * 2048 + t, by omega⟩ : Fin 32768) (⟨h * 128 + d, by omega⟩ : Fin 1024))
      = N (ix4 b t h d) * (Z (ix2 (⟨b * 2048 + t, by omega⟩ : Fin 32768) (⟨h * 128 + d, by omega⟩ : Fin 1024))
          * Ideal.div 1 (1 + Ideal.exp (-Z (ix2 (⟨b * 2048 + t, by omega⟩ : Fin 32768) (⟨h * 128 + d, by omega⟩ : Fin 1024))))) := by
  unfold gated
  pointwise

theorem gate_at (V0 : Valuation τ sig (Elt Ideal)) (I : Fin 32768) (J : Fin 1024) : (res_main_v7 V0 : FVec Ideal S32768x1024 .f32) (ix2 I J) = rows V0 (ix2 I (⟨3072 + J, by omega⟩ : Fin 8192)) := by
  unfold res_main_v7
  show extractStridedSlice S32768x1024 ![0, 3072] (wide V0) slices_S32768x8192_S32768x1024_0_3072 (ix2 I J) = wide V0 (ix2 I (⟨3072 + J, by omega⟩ : Fin 8192))
  generalize wide V0 = X
  pointwise

end Cert.ReferenceIdeal.AttRef
-- ==== Proof.AttPre.lean ====
/- The precondition, read: every entry it speaks of is neither of the two infinities. -/
module

public import proofs.«01_k».proof.Pre_finite_inputs
public import proofs.«01_k».proof.Proof.Consts
public import Idealize.ShloMosaic.Lib.Pointwise
public import Idealize.ShloMosaic.Lib.ReduceAll

@[expose] public section

set_option maxRecDepth 16384

noncomputable section

namespace Cert.AttPre

open Idealize.ShloMosaic Cert.Pre_finite_inputs Cert.Pre_finite_inputs.Facts

/-- A number is a real. -/
def IsReal (x : EReal) : Prop := x ≠ ⊤ ∧ x ≠ ⊥

/-- A number whose size is below the positive infinity is a real. -/
theorem fin_of_abs (x : EReal) (h : Ideal.cmp .olt (max x (-x)) ⊤ = 1#1) : IsReal x := by
  have h' : max x (-x) < ⊤ := by
    by_contra hc
    have e : Ideal.cmp .olt (max x (-x)) ⊤ = 0#1 := by
      show BitVec.ofBool (decide (max x (-x) < ⊤)) = 0#1
      rw [decide_eq_false hc]
      rfl
    rw [e] at h
    exact absurd h (by decide)
  constructor
  · rintro rfl
    exact absurd h' (by simp)
  · rintro rfl
    exact absurd h' (by simp)

/-- An array all of whose sizes are below the positive infinity holds reals. -/
theorem fin_of_all {s u : Shape} {axes : List (Fin s.rank)} [Subsingleton S_.Idx] (x : FVec Ideal s .f32) (B : FVec Ideal s .f32) (init : IVec u 1) (h : s.ReducesTo axes S_) (hu : 0 < u.numel) (j : S_.Idx)
    (hB : ∀ i, B i = (⊤ : EReal)) (e : Host.reduce IntOp.andi (cmpf .olt (Host.absf x) B) init h hu j = 1#1) (i : s.Idx) : IsReal (x i) := by
  have h1 := Host.reduce_andi_all _ init h hu j e i
  refine fin_of_abs _ ?_
  have h2 : Ideal.cmp .olt (max (x i : EReal) (-(x i : EReal))) (B i) = 1#1 := h1
  rw [hB i] at h2
  exact h2

theorem and_one : ∀ a b : BitVec 1, IntOp.andi a b = 1#1 → a = 1#1 ∧ b = 1#1 := by decide

instance : Subsingleton S_.Idx := ⟨fun a b => funext fun i => i.elim0⟩

variable [Facts]

/-- A splat of the positive infinity. -/
theorem splat_at (t : Shape) (h : S_.BroadcastsInDim t (![] : Fin 0 → Fin t.rank)) (i : t.Idx) : (broadcastInDim t ![] h (constant S_ .f32 0x7F800000#32 : FVec Ideal S_ .f32) i : EReal) = ⊤ :=
  Cert.Consts.ofBits_inf

/-- What the precondition says of each argument. -/
theorem read (a0 : FVec Ideal S32768x8192 .bf16) (a1 : FVec Ideal S32x16 .f32) (a2 a3 a4 a5 : FVec Ideal S1x64 .f32) (a6 : FVec Ideal S1x128 .f32)
    (h : fn (F := Ideal) a0 a1 a2 a3 a4 a5 a6 = fun _ => 1#1) :
    (∀ (I : Fin 32768) (J : Fin 8192), J.val < 3072 → IsReal (a0 (ix2 I J))) ∧ (∀ (a : Fin 32) (g : Fin 8), IsReal (a1 (ix2 a (⟨g, by omega⟩ : Fin 16))))
      ∧ (∀ i, IsReal (a2 i)) ∧ (∀ i, IsReal (a3 i)) ∧ (∀ i, IsReal (a4 i)) ∧ (∀ i, IsReal (a5 i)) := by
  have h0 := congrFun h ix0
  unfold fn fn_part1 at h0
  dsimp only at h0
  obtain ⟨h1, e5⟩ := and_one _ _ h0
  obtain ⟨h2, e4⟩ := and_one _ _ h1
  obtain ⟨h3, e3⟩ := and_one _ _ h2
  obtain ⟨h4, e2⟩ := and_one _ _ h3
  obtain ⟨e0, e1⟩ := and_one _ _ h4
  refine ⟨fun I J hJ => ?_, fun a g => ?_, fin_of_all a2 _ _ _ _ _ (splat_at _ _) e2, fin_of_all a3 _ _ _ _ _ (splat_at _ _) e3, fin_of_all a4 _ _ _ _ _ (splat_at _ _) e4, fin_of_all a5 _ _ _ _ _ (splat_at _ _) e5⟩
  · have k := fin_of_all _ _ _ _ _ _ (splat_at _ _) e0 (ix2 I (⟨J, hJ⟩ : Fin 3072))
    have e : (extf .f32 (extractStridedSlice S32768x3072 ![0, 0] a0 slices_S32768x8192_S32768x3072_0_0) bitsLt_bf16_f32 : FVec Ideal S32768x3072 .f32) (ix2 I (⟨J, hJ⟩ : Fin 3072)) = a0 (ix2 I J) := by
      pointwise
    rwa [e] at k
  · have k := fin_of_all _ _ _ _ _ _ (splat_at _ _) e1 (ix2 a g)
    have e : extractStridedSlice S32x8 ![0, 0] a1 slices_S32x16_S32x8_0_0 (ix2 a g) = a1 (ix2 a (⟨g, by omega⟩ : Fin 16)) := by
      pointwise
    rwa [e] at k

end Cert.AttPre
-- ==== Proof.AttOut.lean ====
/- The attention's result at an index, over the kernel's blocks and over the reference's arrays. -/
module

public import proofs.«01_k».proof.Proof.AttHost
public import proofs.«01_k».proof.Proof.AttRef
public import proofs.«01_k».proof.Proof.AttPre
public import Idealize.ShloMosaic.Lib.IdealHost

@[expose] public section

set_option maxRecDepth 16384

noncomputable section

namespace Cert.AttOut

open Idealize.ShloMosaic Idealize.ShloMosaic.TcCoe
open Cert.KernelIdeal Cert.KernelIdeal.Gen Cert.KernelIdeal.Att Cert.AttMath Cert.KernelIdeal.AttRow Cert.AttPre

/-! ## The gate -/

theorem exp_nonneg (x : EReal) : 0 ≤ Ideal.exp x := by
  induction x using EReal.rec with
  | bot => exact le_of_eq rfl
  | coe r => exact EReal.coe_nonneg.mpr (Real.exp_pos r).le
  | top => exact le_top

/-- The gate's two spellings. -/
theorem gate_eq (z : EReal) : z * Ideal.div 1 (1 + Ideal.exp (-z)) = Ideal.div z (1 + Ideal.exp (0 - z)) := by
  rw [zero_sub, Ideal.mul_one_div]
  intro h
  have h1 : (1 : EReal) ≤ 1 + Ideal.exp (-z) := le_add_of_nonneg_right (exp_nonneg _)
  rw [h] at h1
  exact absurd h1 (by norm_num)

/-! ## The rows -/

/-- The difference of the two halves' weighted means of query `i`. -/
def mixr (q k v : ℕ → ℕ → ℝ) (b : ℕ → ℕ → EReal) (l : ℝ) (i d : ℕ) : ℝ :=
  (∑ x : Fin 2048, wt (lg q k b 0 i x) * v x d) / (∑ x : Fin 2048, wt (lg q k b 0 i x))
    - l * ((∑ x : Fin 2048, wt (lg q k b 1 i x) * v x d) / (∑ x : Fin 2048, wt (lg q k b 1 i x)))

/-- The keys of the blocks gone through carry all the weight. -/
theorem sum_range_eq (f : ℕ → ℝ) (t : ℕ) (ht : t < 8) (h : ∀ x, 256 * (t + 1) ≤ x → f x = 0) : ∑ i ∈ Finset.range (256 * (t + 1)), f i = ∑ x : Fin 2048, f x := by
  rw [← Finset.sum_range f]
  refine Finset.sum_subset (fun x hx => ?_) fun x _ hx => h x ?_
  · rw [Finset.mem_range] at hx ⊢
    omega
  · rw [Finset.mem_range] at hx
    omega

theorem wt_masked (q k : ℕ → ℕ → ℝ) (T : Fin 32 → EReal) (c i x : ℕ) (h : i < x) : wt (lg q k (Cert.AttBias.bias T) c i x) = 0 := by
  unfold lg Cert.AttBias.bias
  rw [if_neg (by omega), EReal.add_bot, wt_bot]

theorem sum_pos (q k : ℕ → ℕ → ℝ) (T : Fin 32 → EReal) (hT : ∀ a, IsReal (T a)) (c : ℕ) (i : Fin 2048) : 0 < ∑ x : Fin 2048, wt (lg q k (Cert.AttBias.bias T) c i x) := by
  refine Finset.sum_pos' (fun i _ => wt_nonneg _) ⟨i, Finset.mem_univ _, ?_⟩
  have h1 := lg_ne_top q k (Cert.AttBias.bias T) (Cert.AttBias.bias_ne_top _ fun a => (hT a).1) c i i
  have h2 : lg q k (Cert.AttBias.bias T) c i i ≠ ⊥ := by
    unfold lg Cert.AttBias.bias
    rw [if_pos le_rfl]
    intro he
    rcases EReal.add_eq_bot_iff.mp he with e | e
    · exact EReal.coe_ne_bot _ e
    · exact (hT _).2 e
  rw [← EReal.coe_toReal h1 h2, wt_coe]
  exact Real.exp_pos _

theorem outAll_eq (lam : FVec Ideal S1x1 .f32) (x2 x3 x4 x5 : Vec Ideal S2048x128 .bf16) (x6 : Vec Ideal S1x3x256x256 .f32) (g : Vec Ideal S1x128 .f32) (i : Fin 2048) (d : Fin 128) (t : Fin k0_t1_loop.trips) (r : Fin 256)
    (hi : i.val = 256 * t.val + r.val) : outAll lam x2 x3 x4 x5 x6 g (ix2 i d) = outBlock lam x2 x3 x4 x5 x6 g t (ix2 r d) := by
  unfold outAll
  have h1 : blockOf (ix2 i d) = t := Fin.ext (by show i.val / 256 = t.val; omega)
  have h2 : withinBlock (ix2 i d) = ix2 r d := by
    have : (⟨i.val % 256, Nat.mod_lt _ (by decide)⟩ : Fin 256) = r := Fin.ext (by show i.val % 256 = r.val; omega)
    show ix2 (⟨i.val % 256, Nat.mod_lt _ (by decide)⟩ : Fin 256) d = _
    rw [this]
  rw [h1, h2]

/-- A point's result. -/
theorem outAll_at {x2 x3 x4 x5 : Vec Ideal S2048x128 .bf16} {x6 : Vec Ideal S1x3x256x256 .f32} {q k v : ℕ → ℕ → ℝ} {T : Fin 32 → EReal} (H : Blocks x2 x3 x4 x6 q k v (Cert.AttBias.bias T)) (hT : ∀ a, IsReal (T a))
    (lam : FVec Ideal S1x1 .f32) (g : Vec Ideal S1x128 .f32) (l : ℝ) (hl : lam (ix2 (0 : Fin 1) (0 : Fin 1)) = (l : EReal)) (i : Fin 2048) (d : Fin 128) :
    outAll lam x2 x3 x4 x5 x6 g (ix2 i d)
      = nrm (fun d : Fin 128 => ((mixr q k v (Cert.AttBias.bias T) l i d : ℝ) : EReal)) (fun d => g (ix2 (0 : Fin 1) d)) d * Ideal.div (x5 (ix2 i d)) (1 + Ideal.exp (0 - x5 (ix2 i d))) := by
  have hlt : i.val / 256 < k0_t1_loop.trips := by have h : k0_t1_loop.trips = 8 := by decide
                                                  rw [h]; omega
  obtain ⟨t, ht⟩ : ∃ t : Fin k0_t1_loop.trips, t.val = i.val / 256 := ⟨⟨_, hlt⟩, rfl⟩
  obtain ⟨r, hr⟩ : ∃ r : Fin 256, r.val = i.val % 256 := ⟨⟨i.val % 256, by omega⟩, rfl⟩
  have hi : i.val = 256 * t.val + r.val := by omega
  rw [outAll_eq lam x2 x3 x4 x5 x6 g i d t r hi]
  unfold outBlock
  rw [pay3_at, pay48_at, ld_rows x5 t r d i hi]
  congr 1
  refine congrArg (fun y => nrm y (fun d => g (ix2 (0 : Fin 1) d)) d) (funext fun d => ?_)
  have hrow := stAt_row H t r d (t.val + 1) le_rfl
  dsimp only at hrow
  unfold stEnd
  rw [trips_eq t, hl]
  have z0 : ∀ c, ∀ x, 256 * (t.val + 1) ≤ x → wt (lg q k (Cert.AttBias.bias T) c (256 * t.val + r.val) x) = 0 := fun c x hx => wt_masked q k T c _ x (by omega)
  have ht8 : t.val < 8 := by omega
  obtain ⟨R0, R1⟩ := hrow
  rw [sum_range_eq _ t ht8 (z0 0), sum_range_eq _ t ht8 (fun x hx => by rw [z0 0 x hx, zero_mul]), ← hi] at R0
  rw [sum_range_eq _ t ht8 (z0 1), sum_range_eq _ t ht8 (fun x hx => by rw [z0 1 x hx, zero_mul]), ← hi] at R1
  rw [R0.mean (sum_pos q k T hT 0 i).ne', R1.mean (sum_pos q k T hT 1 i).ne', ← EReal.coe_mul, ← EReal.coe_sub]
  rfl

/-! ## The value both programs compute -/

/-- Entry `(I, J)` of the rows, at places kept in range. -/
def entry (M : FVec Ideal S32768x8192 .bf16) (I J : ℕ) : EReal := M (ix2 (⟨I % 32768, Nat.mod_lt _ (by norm_num)⟩ : Fin 32768) (⟨J % 8192, Nat.mod_lt _ (by norm_num)⟩ : Fin 8192))

/-- The real part `off` columns on. -/
def part (M : FVec Ideal S32768x8192 .bf16) (off b h i j : ℕ) : ℝ := (entry M (b * 2048 + i) (off + (h * 128 + j))).toReal

theorem part_eq (M : FVec Ideal S32768x8192 .bf16) (hM : ∀ (I : Fin 32768) (J : Fin 8192), J.val < 3072 → IsReal (M (ix2 I J))) (off b h i j : ℕ) (I : Fin 32768) (J : Fin 8192)
    (hI : I.val = b * 2048 + i) (hJ : J.val = off + (h * 128 + j)) (hlt : J.val < 3072) : M (ix2 I J) = ((part M off b h i j : ℝ) : EReal) := by
  unfold part entry
  have h1 : (⟨(b * 2048 + i) % 32768, Nat.mod_lt _ (by norm_num)⟩ : Fin 32768) = I := Fin.ext (by simp only [← hI]; exact Nat.mod_eq_of_lt I.isLt)
  have h2 : (⟨(off + (h * 128 + j)) % 8192, Nat.mod_lt _ (by norm_num)⟩ : Fin 8192) = J := Fin.ext (by simp only [← hJ]; exact Nat.mod_eq_of_lt J.isLt)
  rw [h1, h2, EReal.coe_toReal (hM I J hlt).1 (hM I J hlt).2]

/-- The balance of the two halves. -/
def balance (a b c d : FVec Ideal S1x64 .f32) : EReal :=
  Ideal.exp (∑ j : Fin 64, a (ix2 (0 : Fin 1) j) * b (ix2 (0 : Fin 1) j)) - Ideal.exp (∑ j : Fin 64, c (ix2 (0 : Fin 1) j) * d (ix2 (0 : Fin 1) j)) + Ideal.ofBits .f32 1045220557#32

theorem exp_dot_real (a b : FVec Ideal S1x64 .f32) (ha : ∀ i, IsReal (a i)) (hb : ∀ i, IsReal (b i)) : ∃ r : ℝ, Ideal.exp (∑ j : Fin 64, a (ix2 (0 : Fin 1) j) * b (ix2 (0 : Fin 1) j)) = (r : EReal) := by
  have e : ∀ j : Fin 64, a (ix2 (0 : Fin 1) j) * b (ix2 (0 : Fin 1) j) = (((a (ix2 (0 : Fin 1) j) : EReal).toReal * (b (ix2 (0 : Fin 1) j) : EReal).toReal : ℝ) : EReal) := fun j => by
    rw [EReal.coe_mul, EReal.coe_toReal (ha _).1 (ha _).2, EReal.coe_toReal (hb _).1 (hb _).2]
  rw [Finset.sum_congr rfl fun j _ => e j, sum_coe]
  exact ⟨_, rfl⟩

theorem balance_real (a b c d : FVec Ideal S1x64 .f32) (ha : ∀ i, IsReal (a i)) (hb : ∀ i, IsReal (b i)) (hc : ∀ i, IsReal (c i)) (hd : ∀ i, IsReal (d i)) : balance a b c d = (((balance a b c d).toReal : ℝ) : EReal) := by
  obtain ⟨r, hr⟩ := exp_dot_real a b ha hb
  obtain ⟨s, hs⟩ := exp_dot_real c d hc hd
  unfold balance
  rw [hr, hs, Cert.Consts.ofBits_fifth, ← EReal.coe_sub, ← EReal.coe_add, EReal.toReal_coe]

/-- A head's column of the table. -/
def col (T : FVec Ideal S32x16 .f32) (h : ℕ) : Fin 32 → EReal := fun a => T (ix2 a (⟨h % 16, Nat.mod_lt _ (by norm_num)⟩ : Fin 16))

/-- The result of sequence `b`, query `i`, head `h`, value column `d`. -/
def value (M : FVec Ideal S32768x8192 .bf16) (T : FVec Ideal S32x16 .f32) (l : ℝ) (G : FVec Ideal S1x128 .f32) (b i h : ℕ) (d : Fin 128) : EReal :=
  nrm (fun d : Fin 128 => ((mixr (part M 0 b h) (part M 1024 b h) (part M 2048 b h) (Cert.AttBias.bias (col T h)) l i d : ℝ) : EReal)) (fun d => G (ix2 (0 : Fin 1) d)) d
    * Ideal.div (entry M (b * 2048 + i) (3072 + (h * 128 + d))) (1 + Ideal.exp (0 - entry M (b * 2048 + i) (3072 + (h * 128 + d))))

/-- The whole result. -/
def result (M : FVec Ideal S32768x8192 .bf16) (T : FVec Ideal S32x16 .f32) (l : ℝ) (G : FVec Ideal S1x128 .f32) : FVec Ideal S32768x1024 .bf16 :=
  fun y => value M T l G ((y 0).val / 2048) ((y 0).val % 2048) ((y 1).val / 128) (⟨(y 1).val % 128, Nat.mod_lt _ (by norm_num)⟩ : Fin 128)

end Cert.AttOut
-- ==== Proof.AttValue.lean ====
/- The attention's kernel and its reference compute one value. -/
module

public import proofs.«01_k».proof.Proof.AttOut
public import Idealize.ShloMosaic.Lib.Pipeline.ValueKit

@[expose] public section

set_option maxRecDepth 16384

noncomputable section

namespace Cert.ReferenceIdeal.AttValue

open Idealize.ShloMosaic Idealize.ShloMosaic.TcCoe
open Cert.ReferenceIdeal Cert.ReferenceIdeal.Gen Cert.ReferenceIdeal.Value Cert.ReferenceIdeal.AttRef
open Cert.AttPre Cert.AttOut Cert.KernelIdeal.AttRow

/-- The gain. -/
abbrev gain (V0 : Valuation τ sig (Elt Ideal)) : FVec Ideal S1x128 .f32 := V0 (Proc.devRef .tc main_arg6)

variable (V0 : Valuation τ sig (Elt Ideal))

/-- The reference's arrays hold real queries, keys, values and biases. -/
theorem data (hM : ∀ (I : Fin 32768) (J : Fin 8192), J.val < 3072 → IsReal (rows V0 (ix2 I J))) (hT : ∀ (a : Fin 32) (g : Fin 8), IsReal (table V0 (ix2 a (⟨g, by omega⟩ : Fin 16)))) :
    Data V0 (fun b h => part (rows V0) 0 b h) (fun b h => part (rows V0) 1024 b h) (fun b h => part (rows V0) 2048 b h) where
  hq b h i j := part_eq (rows V0) hM 0 b h i j _ _ rfl (by simp only; omega) (by simp only; omega)
  hk b h i j := part_eq (rows V0) hM 1024 b h i j _ _ rfl rfl (by simp only; omega)
  hv b h i j := part_eq (rows V0) hM 2048 b h i j _ _ rfl rfl (by simp only; omega)
  top a h := (hT a h).1
  bot a h := (hT a h).2

theorem column_eq (h : Fin 8) : column V0 h = col (table V0) h := by
  funext a
  unfold column col
  have e : (⟨h.val % 16, Nat.mod_lt _ (by norm_num)⟩ : Fin 16) = ⟨h, by omega⟩ := Fin.ext (by simp only; omega)
  rw [e]

/-- The reference's result. -/
theorem result_eq (hM : ∀ (I : Fin 32768) (J : Fin 8192), J.val < 3072 → IsReal (rows V0 (ix2 I J))) (hT : ∀ (a : Fin 32) (g : Fin 8), IsReal (table V0 (ix2 a (⟨g, by omega⟩ : Fin 16))))
    (h2 : ∀ i, IsReal (vec2 V0 i)) (h3 : ∀ i, IsReal (vec3 V0 i)) (h4 : ∀ i, IsReal (vec4 V0 i)) (h5 : ∀ i, IsReal (vec5 V0 i)) :
    gated (normed (mixed V0) (gain V0)) (res_main_v7 V0) = result (rows V0) (table V0) (balance (vec2 V0) (vec3 V0) (vec4 V0) (vec5 V0)).toReal (gain V0) := by
  have hl : lam V0 ix0 = (((balance (vec2 V0) (vec3 V0) (vec4 V0) (vec5 V0)).toReal : ℝ) : EReal) := (lam_at V0).trans (balance_real _ _ _ _ h2 h3 h4 h5)
  generalize (balance (vec2 V0) (vec3 V0) (vec4 V0) (vec5 V0)).toReal = l at hl ⊢
  have D := data V0 hM hT
  funext y
  obtain ⟨I, J, rfl⟩ : ∃ (I : Fin 32768) (J : Fin 1024), y = ix2 I J := ⟨y 0, y 1, by
    funext a
    match a with
    | ⟨0, _⟩ => rfl
    | ⟨1, _⟩ => rfl⟩
  obtain ⟨b, hb⟩ : ∃ b : Fin 16, b.val = I.val / 2048 := ⟨⟨I.val / 2048, by omega⟩, rfl⟩
  obtain ⟨t, ht⟩ : ∃ t : Fin 2048, t.val = I.val % 2048 := ⟨⟨I.val % 2048, by omega⟩, rfl⟩
  obtain ⟨h, hh⟩ : ∃ h : Fin 8, h.val = J.val / 128 := ⟨⟨J.val / 128, by omega⟩, rfl⟩
  obtain ⟨d, hd⟩ : ∃ d : Fin 128, d.val = J.val % 128 := ⟨⟨J.val % 128, by omega⟩, rfl⟩
  have eI : I = ⟨b * 2048 + t, by omega⟩ := Fin.ext (by simp only; omega)
  have eJ : J = ⟨h * 128 + d, by omega⟩ := Fin.ext (by simp only; omega)
  have er : result (rows V0) (table V0) l (gain V0) (ix2 I J) = value (rows V0) (table V0) l (gain V0) b t h d := by
    show value (rows V0) (table V0) l (gain V0) (I.val / 2048) (I.val % 2048) (J.val / 128) (⟨J.val % 128, Nat.mod_lt _ (by norm_num)⟩ : Fin 128) = _
    have e : (⟨J.val % 128, Nat.mod_lt _ (by norm_num)⟩ : Fin 128) = d := Fin.ext hd.symm
    rw [e, hb, ht, hh]
  rw [er, eI, eJ, gated_at, normed_at, gate_eq, gate_at]
  have ez : rows V0 (ix2 (⟨b * 2048 + t, by omega⟩ : Fin 32768) (⟨3072 + (h * 128 + d), by omega⟩ : Fin 8192)) = entry (rows V0) (b * 2048 + t) (3072 + (h * 128 + d)) := by
    unfold entry
    congr 2
    · exact Fin.ext (Nat.mod_eq_of_lt (by omega)).symm
    · exact Fin.ext (Nat.mod_eq_of_lt (by omega)).symm
  unfold value
  rw [← ez]
  congr 1
  refine congrArg (fun y => nrm y (fun d => gain V0 (ix2 (0 : Fin 1) d)) d) (funext fun d => ?_)
  rw [mix_at D l hl, column_eq]
  rfl

end Cert.ReferenceIdeal.AttValue

namespace Cert.KernelIdeal.AttValue

open Idealize.ShloMosaic Idealize.ShloMosaic.TcCoe
open Cert.KernelIdeal Cert.KernelIdeal.Gen Cert.KernelIdeal.Att Cert.KernelIdeal.AttRow Cert.KernelIdeal.AttHost
open Cert.AttPre Cert.AttOut

variable (m : (ℓ : Loc nD τ sig) → Buf (Elt Ideal) ℓ) (c : Dev nD)

/-- The kernel's arguments. -/
abbrev rowsm : FVec Ideal S32768x8192 .bf16 := m ((c : Thread nD τ).loc main_arg0)
abbrev tablem : FVec Ideal S32x16 .f32 := m ((c : Thread nD τ).loc main_arg1)
abbrev vec2m : FVec Ideal S1x64 .f32 := m ((c : Thread nD τ).loc main_arg2)
abbrev vec3m : FVec Ideal S1x64 .f32 := m ((c : Thread nD τ).loc main_arg3)
abbrev vec4m : FVec Ideal S1x64 .f32 := m ((c : Thread nD τ).loc main_arg4)
abbrev vec5m : FVec Ideal S1x64 .f32 := m ((c : Thread nD τ).loc main_arg5)
abbrev gainm : FVec Ideal S1x128 .f32 := m ((c : Thread nD τ).loc main_arg6)

/-- What is assumed of the arguments. -/
structure Reals : Prop where
  hM : ∀ (I : Fin 32768) (J : Fin 8192), J.val < 3072 → IsReal (rowsm m c (ix2 I J))
  hT : ∀ (a : Fin 32) (g : Fin 8), IsReal (tablem m c (ix2 a (⟨g, by omega⟩ : Fin 16)))
  h2 : ∀ i, IsReal (vec2m m c i)
  h3 : ∀ i, IsReal (vec3m m c i)
  h4 : ∀ i, IsReal (vec4m m c i)
  h5 : ∀ i, IsReal (vec5m m c i)

variable {m c}

theorem col_real (R : Reals m c) (h : Fin 8) (a : Fin 32) : IsReal (col (tablem m c) h a) := by
  unfold col
  have e : (⟨h.val % 16, Nat.mod_lt _ (by norm_num)⟩ : Fin 16) = ⟨h, by omega⟩ := Fin.ext (by simp only; omega)
  rw [e]
  exact R.hT a h

/-- A point's blocks hold its head's part of its sequence. -/
theorem blocks (R : Reals m c) (t : Fin cfg0.N) : Blocks (iblk m c 0 t) (iblk m c 1 t) (iblk m c 2 t) (iblk m c 4 t)
    (part (rowsm m c) 0 (t.val / 8) (t.val % 8)) (part (rowsm m c) 1024 (t.val / 8) (t.val % 8)) (part (rowsm m c) 2048 (t.val / 8) (t.val % 8)) (Cert.AttBias.bias (col (tablem m c) (t.val % 8))) := by
  have ht : t.val < 128 := (idx t).2.2.2.2.2.2.2.2.2.2.2
  refine ⟨fun i j => ?_, fun i j => ?_, fun i j => ?_, Cert.AttBias.bias_ne_top _ fun a => (col_real R ⟨t.val % 8, by omega⟩ a).1, fun n k hn hk r s => ?_⟩
  · rw [q_at m c t i j ⟨t.val / 8 * 2048 + i, by omega⟩ ⟨(0 + t.val % 8) * 128 + j, by omega⟩ rfl rfl]
    exact part_eq (rowsm m c) R.hM 0 (t.val / 8) (t.val % 8) i j _ _ rfl (by simp only; omega) (by simp only; omega)
  · rw [k_at m c t i j ⟨t.val / 8 * 2048 + i, by omega⟩ ⟨(8 + t.val % 8) * 128 + j, by omega⟩ rfl rfl]
    exact part_eq (rowsm m c) R.hM 1024 (t.val / 8) (t.val % 8) i j _ _ rfl (by simp only; omega) (by simp only; omega)
  · rw [v_at m c t i j ⟨t.val / 8 * 2048 + i, by omega⟩ ⟨(16 + t.val % 8) * 128 + j, by omega⟩ rfl rfl]
    exact part_eq (rowsm m c) R.hM 2048 (t.val / 8) (t.val % 8) i j _ _ rfl (by simp only; omega) (by simp only; omega)
  · rw [b_at m c t _ r s (⟨t.val % 8, by omega⟩ : Fin 8) rfl, tiles_at _ _ n k hn hk r s]
    congr 1
    funext a
    unfold col
    congr 2
    exact Fin.ext (by simp only; omega)

theorem balance_at (t : Fin cfg0.N) : k0_pay1 (iblk m c 5 t) (iblk m c 6 t) (iblk m c 7 t) (iblk m c 8 t) (ix2 (0 : Fin 1) (0 : Fin 1)) = balance (vec2m m c) (vec3m m c) (vec4m m c) (vec5m m c) := by
  rw [pay1_at]
  simp only [l1_at, l2_at, l3_at, l4_at]
  rfl

/-- A point's result at an index. -/
theorem point (R : Reals m c) (t : Fin cfg0.N) (i : Fin 2048) (d : Fin 128) :
    outAt m c t (ix2 i d) = value (rowsm m c) (tablem m c) (balance (vec2m m c) (vec3m m c) (vec4m m c) (vec5m m c)).toReal (gainm m c) (t.val / 8) i (t.val % 8) d := by
  have ht : t.val < 128 := (idx t).2.2.2.2.2.2.2.2.2.2.2
  have hl := (balance_at (m := m) (c := c) t).trans (balance_real _ _ _ _ R.h2 R.h3 R.h4 R.h5)
  unfold outAt
  rw [outAll_at (blocks R t) (fun a => col_real R ⟨t.val % 8, by omega⟩ a) _ _ _ hl i d]
  have ez : iblk m c 3 t (ix2 i d) = entry (rowsm m c) (t.val / 8 * 2048 + i) (3072 + (t.val % 8 * 128 + d)) := by
    rw [z_at m c t i d ⟨t.val / 8 * 2048 + i, by omega⟩ ⟨(24 + t.val % 8) * 128 + d, by omega⟩ rfl rfl]
    unfold entry
    congr 2
    · exact Fin.ext (Nat.mod_eq_of_lt (by omega)).symm
    · exact Fin.ext (by simp only; omega)
  unfold value
  rw [ez]
  simp only [g_at]

/-- A point's block at any of its indices and the array's index it lies at. -/
theorem at10 (R : Reals m c) (t : Fin cfg0.N) (y : S2048x128.Idx) (j : S32768x1024.Idx) (h0 : (j 0 : ℕ) = t.val / 8 * 2048 + (y 0 : ℕ)) (h1 : (j 1 : ℕ) = t.val % 8 * 128 + (y 1 : ℕ)) :
    outAt m c t y = result (rowsm m c) (tablem m c) (balance (vec2m m c) (vec3m m c) (vec4m m c) (vec5m m c)).toReal (gainm m c) j := by
  obtain ⟨i, d, rfl⟩ : ∃ (i : Fin 2048) (d : Fin 128), y = ix2 i d := ⟨y 0, y 1, by
    funext a
    match a with
    | ⟨0, _⟩ => rfl
    | ⟨1, _⟩ => rfl⟩
  rw [point R]
  have h0' : (j 0 : ℕ) = t.val / 8 * 2048 + (i : ℕ) := h0
  have h1' : (j 1 : ℕ) = t.val % 8 * 128 + (d : ℕ) := h1
  unfold result
  have e0 : (j 0 : ℕ) / 2048 = t.val / 8 := by omega
  have e1 : (j 0 : ℕ) % 2048 = i := by omega
  have e2 : (j 1 : ℕ) / 128 = t.val % 8 := by omega
  have e3 : (⟨(j 1 : ℕ) % 128, Nat.mod_lt _ (by norm_num)⟩ : Fin 128) = d := Fin.ext (by simp only; omega)
  rw [e0, e1, e2, e3]

/-- The output array after the run. -/
theorem final (R : Reals m c) : (dats m 0 c).arrAt 10 (cfgs 0).N = result (rowsm m c) (tablem m c) (balance (vec2m m c) (vec3m m c) (vec4m m c) (vec5m m c)).toReal (gainm m c) := by
  refine (dats m 0 c).arrAt_eq_of_covers 10 _ (by decide +kernel) fun t _ y => ?_
  blk_simp
  rw [after0_10]
  refine at10 R t y _ ?_ ?_ <;> blk_simp [idx t]

/-- The precondition, read. -/
theorem reals [Cert.Pre_finite_inputs.Facts] (h : Cert.Pre_KernelIdeal_finite_inputs m) : Reals m c := by
  obtain ⟨h0, h1, h2, h3, h4, h5⟩ := Cert.AttPre.read _ _ _ _ _ _ _ (h c)
  exact ⟨h0, h1, h2, h3, h4, h5⟩

end Cert.KernelIdeal.AttValue

namespace Cert.ReferenceIdeal.AttValue

open Idealize.ShloMosaic Idealize.ShloMosaic.TcCoe Cert.ReferenceIdeal Cert.ReferenceIdeal.Gen Cert.ReferenceIdeal.AttRef Cert.AttOut

/-- Over the kernel's arguments the reference's result is the kernel's. -/
theorem result_of_agree (m : (ℓ : Loc Cert.KernelIdeal.nD Cert.KernelIdeal.τ Cert.KernelIdeal.sig) → Buf (Elt Ideal) ℓ) (c : Dev Cert.KernelIdeal.nD) (R : Cert.KernelIdeal.AttValue.Reals m c)
    (V0 : Valuation τ sig (Elt Ideal)) (h0 : rows V0 = Cert.KernelIdeal.AttValue.rowsm m c) (h1 : table V0 = Cert.KernelIdeal.AttValue.tablem m c) (h2 : vec2 V0 = Cert.KernelIdeal.AttValue.vec2m m c)
    (h3 : vec3 V0 = Cert.KernelIdeal.AttValue.vec3m m c) (h4 : vec4 V0 = Cert.KernelIdeal.AttValue.vec4m m c) (h5 : vec5 V0 = Cert.KernelIdeal.AttValue.vec5m m c) (h6 : gain V0 = Cert.KernelIdeal.AttValue.gainm m c) :
    gated (normed (mixed V0) (Cert.KernelIdeal.AttValue.gainm m c)) (Cert.ReferenceIdeal.Value.res_main_v7 V0) = (Cert.KernelIdeal.Att.dats m 0 c).arrAt 10 (Cert.KernelIdeal.cfgs 0).N := by
  rw [← h6, Cert.KernelIdeal.AttValue.final R, result_eq V0 (by rw [h0]; exact R.hM) (by rw [h1]; exact R.hT) (by rw [h2]; exact R.h2) (by rw [h3]; exact R.h3) (by rw [h4]; exact R.h4) (by rw [h5]; exact R.h5),
    h0, h1, h2, h3, h4, h5, h6]

end Cert.ReferenceIdeal.AttValue

set_option maxHeartbeats 4000000 in
/-- The attention computes the reference's result on every device. -/
theorem Cert.KernelIdeal.AttValue.algebraic [Cert.Pre_finite_inputs.Facts] : Cert.algebraic_KernelIdeal_ReferenceIdeal_pre_finite_inputs := by
  pair_intro
  · run_from Cert.KernelIdeal.Att.run_main m g
    · exact Cert.KernelIdeal.Gen.V_main_arg1 m c
    · exact Cert.KernelIdeal.Gen.V_main_arg2 m c
    · exact Cert.KernelIdeal.Gen.V_main_arg3 m c
    · exact Cert.KernelIdeal.Gen.V_main_arg4 m c
    · exact Cert.KernelIdeal.Gen.V_main_arg5 m c
    · exact Cert.KernelIdeal.Gen.V_main_arg6 m c
  · run_from Cert.ReferenceIdeal.Value.run m' g'
    · obtain ⟨h0, h1, h2, h3, h4, h5, h6⟩ := hagree c
      exact Cert.ReferenceIdeal.AttValue.result_of_agree m c (Cert.KernelIdeal.AttValue.reals hpre)
        (Idealize.ShloMosaic.StableHlo.launchContents m' c) h0 h1 h2 h3 h4 h5 h6

end
-- ==== Proof.Out.lean ====
/- The output projection's result array is the reference's: the product of the two attention outputs side by side with
   the output weights, its root-mean-square norm, the residual added. -/
module

public import proofs.«01_k».proof.Defs
public import proofs.«01_k».proof.Proof.Gen.Kernel3Ideal.Value
public import proofs.«01_k».proof.Proof.Gen.Reference3Ideal.Run
public import proofs.«01_k».proof.Proof.Gen.Reference3Ideal
public import Idealize.ShloMosaic.Lib.Pipeline.ValueKit
public import Idealize.ShloMosaic.Lib.Pointwise
public import Idealize.ShloMosaic.Lib.Claim

@[expose] public section

set_option maxRecDepth 16384

noncomputable section

namespace Cert.Reference3Ideal.Out

open Cert.Reference3Ideal Cert.Reference3Ideal.Gen Idealize.ShloMosaic Idealize.ShloMosaic.TcCoe Idealize.SL.Sem

/-- The product of the concatenated attention outputs `A`, `B` with the output weights `W`, as the reference computes it. -/
def PROD (A : FVec Ideal S32768x1024 .bf16) (B : FVec Ideal S32768x1024 .bf16) (W : FVec Ideal S1x2048x2048 .f32) :
    FVec Ideal S16x2048x2048 .f32 :=
  Host.dotGeneral dot_S16x2048x2048_S2048x2048_S16x2048x2048_2_0_01_1_n_n none (shapeCast _ (concatenate S32768x2048 1 [⟨S32768x1024, (extf .f32 A bitsLt_bf16_f32)⟩, ⟨S32768x1024, (extf .f32 B bitsLt_bf16_f32)⟩] concatenates_S32768x1024_S32768x1024_S32768x2048_d1) shapeCasts_S32768x2048_S16x2048x2048) (shapeCast _ W shapeCasts_S1x2048x2048_S2048x2048)

/-- The norm of the product `P` and the residual sum, as the reference computes them. -/
def REF3 (P X : FVec Ideal S16x2048x2048 .f32) (G : FVec Ideal S1x2048 .f32) : FVec Ideal S16x2048x2048 .f32 :=
  addf X (mulf (mulf P (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf P P) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ G shapeCasts_S1x2048_S2048))))

/-- The reference's result as its composed term over the arguments. -/
def REF (A : FVec Ideal S32768x1024 .bf16) (B : FVec Ideal S32768x1024 .bf16) (X : FVec Ideal S16x2048x2048 .f32)
    (W : FVec Ideal S1x2048x2048 .f32) (G : FVec Ideal S1x2048 .f32) : FVec Ideal S32768x2048 .f32 :=
  shapeCast S32768x2048 (REF3 (PROD A B W) X G) shapeCasts_S16x2048x2048_S32768x2048

/-- One row `y` of the product, its residual `x` and gain `g` at a column, after the norm and the residual sum. -/
def rowOut (y : Fin 2048 → EReal) (x g : EReal) (n : Fin 2048) : EReal :=
  x + y n * Ideal.rsqrt (Ideal.div (∑ k, y k * y k) (Ideal.ofBits .f32 1157627904#32) + Ideal.ofBits .f32 897988541#32) * g

/-- The product at an index: the two halves of the contraction apart. -/
theorem prod_at (A : FVec Ideal S32768x1024 .bf16) (B : FVec Ideal S32768x1024 .bf16) (W : FVec Ideal S1x2048x2048 .f32)
    (b : Fin 16) (r : Fin 2048) (n : Fin 2048) :
    PROD A B W (ix3 b r n) = (∑ k : Fin 1024, A (ix2 ⟨b * 2048 + r, by omega⟩ k) * W (ix3 0 ⟨k, by omega⟩ n))
      + ∑ k : Fin 1024, B (ix2 ⟨b * 2048 + r, by omega⟩ k) * W (ix3 0 ⟨1024 + k, by omega⟩ n) := by
  pointwise [PROD]

/-- The reference's result at an index, over its product's row. -/
theorem ref3_at (P X : FVec Ideal S16x2048x2048 .f32) (G : FVec Ideal S1x2048 .f32) (b : Fin 16) (r : Fin 2048) (n : Fin 2048) :
    REF3 P X G (ix3 b r n) = rowOut (fun k => P (ix3 b r k)) (X (ix3 b r n)) (G (ix2 0 n)) n := by
  pointwise [REF3, rowOut]

/-- The reshaped result at row `b * 2048 + r`. -/
theorem ref_at (A : FVec Ideal S32768x1024 .bf16) (B : FVec Ideal S32768x1024 .bf16) (X : FVec Ideal S16x2048x2048 .f32)
    (W : FVec Ideal S1x2048x2048 .f32) (G : FVec Ideal S1x2048 .f32) (b : Fin 16) (r : Fin 2048) (n : Fin 2048) :
    REF A B X W G (ix2 ⟨b * 2048 + r, by omega⟩ n) = REF3 (PROD A B W) X G (ix3 b r n) := by
  pointwise [REF]

end Cert.Reference3Ideal.Out

namespace Cert.Kernel3Ideal.Out

open Cert.Kernel3Ideal Cert.Kernel3Ideal.Gen Idealize.ShloMosaic Idealize.ShloMosaic.TcCoe Idealize.SL.Sem
open Idealize.ShloMosaic.Pipeline (Dat)
open Cert.Reference3Ideal.Out

variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 64 :=
  (by decide +kernel : ∀ t : Fin grid0.N, _)

/-- What the body stores, at an index of its block, over the product's row. -/
theorem pay_at (v0 : Vec Ideal S512x1024 .bf16) (v1 : Vec Ideal S1024x2048 .bf16) (v4 : Vec Ideal S512x1024 .bf16)
    (v5 : Vec Ideal S1024x2048 .bf16) (v14 : Vec Ideal S512x2048 .f32) (v21 : Vec Ideal S1x2048 .f32) (i : Fin 512) (n : Fin 2048) :
    k0_pay1 v0 v1 v4 v5 v14 v21 (ix2 i n)
      = rowOut (fun n => (∑ k : Fin 1024, v0 (ix2 i k) * v1 (ix2 k n)) + ∑ k : Fin 1024, v4 (ix2 i k) * v5 (ix2 k n))
          (v14 (ix2 i n)) (v21 (ix2 0 n)) n := by
  pointwise [k0_pay1, rowOut]

/-- What the body stores at an index of its block is the reference's result where the block lies. -/
theorem point (c : Dev nD) (t : Fin cfg0.N) (y0 : Fin 512) (n : Fin 2048) (b : Fin 16) (r : Fin 2048)
    (h0 : (b * 2048 + r : ℕ) = t.val * 512 + (y0 : ℕ)) :
    out0_5 (iblk m c 0 t) (iblk m c 1 t) (iblk m c 2 t) (iblk m c 3 t) (iblk m c 4 t) (ix2 y0 n)
      = REF (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨b * 2048 + r, by omega⟩ n) := by
  rw [ref_at, ref3_at]
  simp only [prod_at]
  frame_out
  rw [pay_at]
  pointwise [rowOut]
  have hb : (t.val * 512 + y0) / 2048 = b := by omega
  have hr : (t.val * 512 + y0) % 2048 = r := by omega
  blk_point [iblk, V, idx t]

/-- The same at any index of the block and the array's index it lies at. -/
theorem point_at (c : Dev nD) (t : Fin cfg0.N) (y : S512x2048.Idx) (j : S32768x2048.Idx)
    (h0 : (j 0 : ℕ) = t.val * 512 + (y 0 : ℕ)) (h1 : (j 1 : ℕ) = y 1) :
    out0_5 (iblk m c 0 t) (iblk m c 1 t) (iblk m c 2 t) (iblk m c 3 t) (iblk m c 4 t) y
      = REF (m ((c : Thread nD τ).loc main_arg0)) (m ((c : Thread nD τ).loc main_arg1)) (m ((c : Thread nD τ).loc main_arg2))
          (m ((c : Thread nD τ).loc main_arg3)) (m ((c : Thread nD τ).loc main_arg4)) j := by
  idx_vars y
  idx_vars j
  obtain rfl : j1 = y1 := Fin.ext h1
  have hlt : (j0 : ℕ) < 32768 := j0.isLt
  have hj : j0 = ⟨(j0 : ℕ) / 2048 * 2048 + (j0 : ℕ) % 2048, by omega⟩ := Fin.ext (by simp only; omega)
  have h0' : (j0 : ℕ) = t.val * 512 + (y0 : ℕ) := h0
  rw [hj]
  exact point m c t y0 j1 ⟨(j0 : ℕ) / 2048, by omega⟩ ⟨(j0 : ℕ) % 2048, by omega⟩ (by simp only; omega)

/-- The output array after the run is the reference's result. -/
theorem final (c : Dev nD) : (dats m 0 c).arrAt 5 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]
  refine point_at m c t y _ ?_ ?_
  · blk_simp [idx t]
  · blk_simp [idx t]

end Cert.Kernel3Ideal.Out

/-- The output projection computes the reference's result on every device. -/
theorem Cert.Kernel3Ideal.Out.algebraic : Cert.algebraic_Kernel3Ideal_Reference3Ideal := by
  pair_intro
  · run_from Cert.Kernel3Ideal.Gen.run_main m g
  · run_from Cert.Reference3Ideal.Value.run m' g'
    exact (Cert.Kernel3Ideal.Out.final m c).symm

end
-- ==== Proof.InBodyIdeal.lean ====
/- The input projection's body, run at every point of its grid, and the launch. The grid runs over blocks of rows
   and, within one, over blocks of columns. Where the columns begin the body normalises its rows, keeps them in the
   scratch and writes the three narrow results; at every point it multiplies the kept rows with a block of columns. -/
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.Pipeline.ValueKit
public import proofs.«01_k».proof.Defs

@[expose] public section

-- membership in a rectangle of production extents (`View.cover_of_tiled`) is checked one coordinate
-- after another along the long axes
set_option maxRecDepth 16384

noncomputable section

namespace Cert.Kernel2Ideal.InBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- One store of the whole buffer covers it. -/
theorem cover_S1024x1024 {e : EltTy} (p : Vec F S1024x1024 e) (y : S1024x1024.Idx) :
    ∃ pc ∈ ([⟨Rect.unit (s := S1024x1024) ![0, 0] S1024x1024.size inb_S1024x1024_S1024x1024_0_0, p⟩] : List (View.Piece (Elt F) S1024x1024 e)), y ∈ pc.1.set :=
  View.cover_of_tiled [⟨Rect.unit (s := S1024x1024) ![0, 0] S1024x1024.size inb_S1024x1024_S1024x1024_0_0, p⟩] S1024x1024.size (by rfl) y

/-- One store of the whole buffer covers it. -/
theorem cover_S1024x256 {e : EltTy} (p : Vec F S1024x256 e) (y : S1024x256.Idx) :
    ∃ pc ∈ ([⟨Rect.unit (s := S1024x256) ![0, 0] S1024x256.size inb_S1024x256_S1024x256_0_0, p⟩] : List (View.Piece (Elt F) S1024x256 e)), y ∈ pc.1.set :=
  View.cover_of_tiled [⟨Rect.unit (s := S1024x256) ![0, 0] S1024x256.size inb_S1024x256_S1024x256_0_0, p⟩] S1024x256.size (by rfl) y

/-- One store of the whole buffer covers it. -/
theorem cover_S1024x128 {e : EltTy} (p : Vec F S1024x128 e) (y : S1024x128.Idx) :
    ∃ pc ∈ ([⟨Rect.unit (s := S1024x128) ![0, 0] S1024x128.size inb_S1024x128_S1024x128_0_0, p⟩] : List (View.Piece (Elt F) S1024x128 e)), y ∈ pc.1.set :=
  View.cover_of_tiled [⟨Rect.unit (s := S1024x128) ![0, 0] S1024x128.size inb_S1024x128_S1024x128_0_0, p⟩] S1024x128.size (by rfl) y

/-- One store of the whole buffer covers it. -/
theorem cover_S1024x2048 {e : EltTy} (p : Vec F S1024x2048 e) (y : S1024x2048.Idx) :
    ∃ pc ∈ ([⟨Rect.unit (s := S1024x2048) ![0, 0] S1024x2048.size inb_S1024x2048_S1024x2048_0_0, p⟩] : List (View.Piece (Elt F) S1024x2048 e)), y ∈ pc.1.set :=
  View.cover_of_tiled [⟨Rect.unit (s := S1024x2048) ![0, 0] S1024x2048.size inb_S1024x2048_S1024x2048_0_0, p⟩] S1024x2048.size (by rfl) y

set_option maxHeartbeats 1000000 in
/-- The body at a point where the columns begin: the normalised rows go to the scratch, the four results are written. -/
theorem run_first (c : Dev nD) (E : Set ℕ) (i : grid0.Coords) (hi : k0_cond1 i = 1#1) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x512 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x256 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x2048 .bf16) (harg12 : arg12.IsWhole)
    (x0 : Vec F S1024x2048 .f32) (x1 : Vec F S1x2048 .f32) (x2 : Vec F S2048x1024 .bf16) (x3 : Vec F S2048x512 .bf16) (x4 : Vec F S1x256 .f32) (x5 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay3 (k0_pay5 x0 x1) x2) ∗ owns (c : Thread nD τ) arg9 fullShare (k0_pay7 x0 x1 x3 x4) ∗ owns (c : Thread nD τ) arg10 fullShare (k0_pay1 (k0_pay6 x0 x1 x3) x5) ∗ owns (c : Thread nD τ) arg11 fullShare (k0_pay2 (k0_pay6 x0 x1 x3)) ∗ owns (c : Thread nD τ) arg12 fullShare (k0_pay5 x0 x1)) -∗ K ⟨⟩))
      ⊢ wp frame (wpE (defs₀ (F := F)) Variants.none c none) E (cc0_input_projection i arg2 harg2 arg3 harg3 arg4 harg4 arg5 harg5 arg6 harg6 arg7 harg7 arg8 harg8 arg9 harg9 arg10 harg10 arg11 harg11 arg12 harg12) K := by
  simp only [cc0_input_projection_eq_skeleton]; unfold cc0_input_projection_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  subst hf2 hf3 hf4 hf5 hf6 hf7
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (cover_S1024x1024 _), View.canon_cons_unit_lit _ _ _ (by decide)]
    delta run_first.sl.v3 run_first.sl.H12_1
    simp (disch := decide) only [View.readAt_eq_ld, View.readCov_unit_lit', View.ld_unit_lit']
  isplitl [H9]
  · iexists _; isplitr
    swap; · iexact H9
    ipureintro
    rw [View.read_writes_eq_canon _ _ _ (cover_S1024x256 _), View.canon_cons_unit_lit _ _ _ (by decide)]
    delta run_first.sl.r_1
    simp (disch := decide) only [View.readAt_eq_ld, View.readCov_unit_lit', View.ld_unit_lit']
  isplitl [H10]
  · iexists _; isplitr
    swap; · iexact H10
    ipureintro
    rw [View.read_writes_eq_canon _ _ _ (cover_S1024x128 _), View.canon_cons_unit_lit _ _ _ (by decide)]
    delta run_first.sl.r
    simp (disch := decide) only [View.readAt_eq_ld, View.readCov_unit_lit', View.ld_unit_lit']
  isplitl [H11]
  · iexists _; isplitr
    swap; · iexact H11
    ipureintro
    rw [View.read_writes_eq_canon _ _ _ (cover_S1024x128 _), View.canon_cons_unit_lit _ _ _ (by decide)]
    delta run_first.sl.r
    simp (disch := decide) only [View.readAt_eq_ld, View.readCov_unit_lit', View.ld_unit_lit']
  · iexists _; isplitr
    swap; · iexact H12
    ipureintro
    delta run_first.sl.H12_1
    rw [View.read_writes_eq_canon _ _ _ (cover_S1024x2048 _), View.canon_cons_unit_lit _ _ _ (by decide)]
    simp (disch := decide) only [View.readAt_eq_ld, View.readCov_unit_lit', View.ld_unit_lit']

set_option maxHeartbeats 1000000 in
/-- The body at a later point of the columns: only the product of the scratch with this block of columns is written. -/
theorem run_later (c : Dev nD) (E : Set ℕ) (i : grid0.Coords) (hi : ¬ k0_cond1 i = 1#1) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x512 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S1024x1024 .bf16) (harg8 : arg8.IsWhole) (arg9 : Memref sig .tc .vmem S1024x256 .bf16) (harg9 : arg9.IsWhole) (arg10 : Memref sig .tc .vmem S1024x128 .bf16) (harg10 : arg10.IsWhole) (arg11 : Memref sig .tc .vmem S1024x128 .f32) (harg11 : arg11.IsWhole) (arg12 : Memref sig .tc .vmem S1024x2048 .bf16) (harg12 : arg12.IsWhole)
    (x2 : Vec F S2048x1024 .bf16) (x : Vec F S1024x2048 .bf16) (K : PUnit → sProp 𝕄) :
    iprop(owns (c : Thread nD τ) arg4 fullShare x2 ∗ (∃ d, owns (c : Thread nD τ) arg8 fullShare d) ∗ owns (c : Thread nD τ) arg12 fullShare x
        ∗ (iprop(owns (c : Thread nD τ) arg4 fullShare x2 ∗ owns (c : Thread nD τ) arg8 fullShare (k0_pay3 x x2) ∗ owns (c : Thread nD τ) arg12 fullShare x) -∗ K ⟨⟩))
      ⊢ wp frame (wpE (defs₀ (F := F)) Variants.none c none) E (cc0_input_projection i arg2 harg2 arg3 harg3 arg4 harg4 arg5 harg5 arg6 harg6 arg7 harg7 arg8 harg8 arg9 harg9 arg10 harg10 arg11 harg11 arg12 harg12) K := by
  simp only [cc0_input_projection_eq_skeleton]; unfold cc0_input_projection_skel
  unfold owns
  iintro ⟨⟨%f4, %hf4, H4⟩, ⟨%d8, %f8, -, H8⟩, ⟨%f12, %hf12, H12⟩, Hk⟩
  subst hf4 hf12
  sl_exec
  sl_step
  iapply Hk
  isplitl [H4]
  · iexists f4; isplitr; · ipureintro; rfl
    iexact H4
  isplitl [H8]
  · iexists _; isplitr
    swap; · iexact H8
    ipureintro
    rw [View.read_writes_eq_canon _ _ _ (cover_S1024x1024 _), View.canon_cons_unit_lit _ _ _ (by decide)]
    simp (disch := decide) only [View.readAt_eq_ld, View.readCov_unit_lit', View.ld_unit_lit']
  · iexists f12; isplitr; · ipureintro; rfl
    iexact H12

variable (m : (ℓ : Loc nD τ sig) → Buf (Elt F) ℓ) (ρ : Dev nD → PrngReg)

/-! ## The pipeline's proof data -/

/-- The normalised rows the scratch holds after point `t`. -/
def hrow (c : Dev nD) (t : Fin cfg0.N) : Vec F S1024x2048 .bf16 := k0_pay5 (iblk m c 0 t) (iblk m c 1 t)

/-- What a core carries from point to point: the scratch, which at every point but the first of a row block holds the
    rows normalised at the point before, and its generator register. -/
def Carry (c : Dev nD) (n : ℕ) : sProp 𝕄 :=
  iprop((∃ X, owns (c : Thread nD τ) (Memref.whole cc0_scratch0) fullShare X
      ∗ ⌜∀ h : n - 1 < cfg0.N, n % 8 ≠ 0 → X = hrow m c ⟨n - 1, h⟩⌝) ∗ ∃ r, prngReg c r)

/-- The proof data on core `c`: the arrays as the region finds them; after the body each input's buffer at its block
    and each result's at what the body computes from the blocks; `Carry` between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (k0_pay5 (iblk m c 0 t) (iblk m c 1 t)) (iblk m c 2 t)
    | ⟨7, _⟩ => k0_pay7 (iblk m c 0 t) (iblk m c 1 t) (iblk m c 3 t) (iblk m c 4 t)
    | ⟨8, _⟩ => k0_pay1 (k0_pay6 (iblk m c 0 t) (iblk m c 1 t) (iblk m c 3 t)) (iblk m c 5 t)
    | ⟨9, _⟩ => k0_pay2 (k0_pay6 (iblk m c 0 t) (iblk m c 1 t) (iblk m c 3 t))
  Φ t := Carry m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = k0_pay3 (k0_pay5 (iblk m c 0 t) (iblk m c 1 t)) (iblk m c 2 t) := by dsimp only [dats]
theorem after0_7 (c : Dev nD) (t : Fin cfg0.N) : (dats m 0 c).after 7 t = k0_pay7 (iblk m c 0 t) (iblk m c 1 t) (iblk m c 3 t) (iblk m c 4 t) := by dsimp only [dats]
theorem after0_8 (c : Dev nD) (t : Fin cfg0.N) : (dats m 0 c).after 8 t = k0_pay1 (k0_pay6 (iblk m c 0 t) (iblk m c 1 t) (iblk m c 3 t)) (iblk m c 5 t) := by dsimp only [dats]
theorem after0_9 (c : Dev nD) (t : Fin cfg0.N) : (dats m 0 c).after 9 t = k0_pay2 (k0_pay6 (iblk m c 0 t) (iblk m c 1 t) (iblk m c 3 t)) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The schedule: where the columns begin -/

/-- The body's condition holds at the points where the columns begin. -/
theorem cond_iff : ∀ t : Fin grid0.N, k0_cond1 (grid0.coords t) = 1#1 ↔ t.val % 8 = 0 := by decide +kernel

/-- The narrow results' windows are idle elsewhere. -/
theorem idle_eq (t : Fin cfg0.N) : (!(k0_cond1 (grid0.coords t) == 1#1)) = !decide (t.val % 8 = 0) := by
  have h := cond_iff t
  by_cases h0 : t.val % 8 = 0
  · rw [h.2 h0]; simp [h0]
  · simp [h0, mt h.1 h0]

/-- The point before. -/
abbrev prev (t : Fin cfg0.N) : Fin cfg0.N := ⟨t.val - 1, Nat.lt_of_le_of_lt (Nat.sub_le _ _) t.isLt⟩

/-- Within a row block the block of rows, and the gains and the narrow weights, are the ones of the point before. -/
theorem iblk0_prev (c : Dev nD) (t : Fin cfg0.N) (ht : t.val % 8 ≠ 0) : iblk m c 0 t = iblk m c 0 (prev t) := by
  rw [← before0_0 m c t (iblk m c 0 t), (dats m 0 c).before_unfetched_in 0 rfl t (Bool.eq_false_iff.2 fun h => ht ((fetch0_0 t).1 h)) (fun _ => rfl)]
  unfold Dat.kept; dsimp only [dats]; rfl
theorem iblk1_prev (c : Dev nD) (t : Fin cfg0.N) (ht : t.val % 8 ≠ 0) : iblk m c 1 t = iblk m c 1 (prev t) := by
  rw [← before0_1 m c t (iblk m c 1 t), (dats m 0 c).before_unfetched_in 1 rfl t (Bool.eq_false_iff.2 fun h => ht (by have := (fetch0_1 t).1 h; omega)) (fun _ => rfl)]
  unfold Dat.kept; dsimp only [dats]; rfl
theorem iblk3_prev (c : Dev nD) (t : Fin cfg0.N) (ht : t.val % 8 ≠ 0) : iblk m c 3 t = iblk m c 3 (prev t) := by
  rw [← before0_3 m c t (iblk m c 3 t), (dats m 0 c).before_unfetched_in 3 rfl t (Bool.eq_false_iff.2 fun h => ht (by have := (fetch0_3 t).1 h; omega)) (fun _ => rfl)]
  unfold Dat.kept; dsimp only [dats]; rfl
theorem iblk4_prev (c : Dev nD) (t : Fin cfg0.N) (ht : t.val % 8 ≠ 0) : iblk m c 4 t = iblk m c 4 (prev t) := by
  rw [← before0_4 m c t (iblk m c 4 t), (dats m 0 c).before_unfetched_in 4 rfl t (Bool.eq_false_iff.2 fun h => ht (by have := (fetch0_4 t).1 h; omega)) (fun _ => rfl)]
  unfold Dat.kept; dsimp only [dats]; rfl
theorem iblk5_prev (c : Dev nD) (t : Fin cfg0.N) (ht : t.val % 8 ≠ 0) : iblk m c 5 t = iblk m c 5 (prev t) := by
  rw [← before0_5 m c t (iblk m c 5 t), (dats m 0 c).before_unfetched_in 5 rfl t (Bool.eq_false_iff.2 fun h => ht (by have := (fetch0_5 t).1 h; omega)) (fun _ => rfl)]
  unfold Dat.kept; dsimp only [dats]; rfl

/-- So the normalised rows are those of the point before, -/
theorem hrow_prev (c : Dev nD) (t : Fin cfg0.N) (ht : t.val % 8 ≠ 0) : hrow m c t = hrow m c (prev t) := by
  unfold hrow; rw [iblk0_prev m c t ht, iblk1_prev m c t ht]
/-- and so are the narrow results. -/
theorem after7_prev (c : Dev nD) (t : Fin cfg0.N) (ht : t.val % 8 ≠ 0) : (dats m 0 c).after 7 t = (dats m 0 c).after 7 (prev t) := by
  rw [after0_7, after0_7, iblk0_prev m c t ht, iblk1_prev m c t ht, iblk3_prev m c t ht, iblk4_prev m c t ht]
theorem after8_prev (c : Dev nD) (t : Fin cfg0.N) (ht : t.val % 8 ≠ 0) : (dats m 0 c).after 8 t = (dats m 0 c).after 8 (prev t) := by
  rw [after0_8, after0_8, iblk0_prev m c t ht, iblk1_prev m c t ht, iblk3_prev m c t ht, iblk5_prev m c t ht]
theorem after9_prev (c : Dev nD) (t : Fin cfg0.N) (ht : t.val % 8 ≠ 0) : (dats m 0 c).after 9 t = (dats m 0 c).after 9 (prev t) := by
  rw [after0_9, after0_9, iblk0_prev m c t ht, iblk1_prev m c t ht, iblk3_prev m c t ht]

/-- A result's window that is written where the columns begin and written back where they end holds, in between, what
    the point before left. -/
theorem before_narrow (c : Dev nD) (w : Fin cfg0.W) (hw : (cfg0.win w).isOut = true)
    (hidle : ∀ t : Fin cfg0.N, cfg0.idle w (grid0.coords t) = !decide (t.val % 8 = 0))
    (hfl : ∀ t : Fin cfg0.N, (cfg0.win w).flush t = true ↔ t.val % 8 = 7)
    (hkept : ∀ (t : Fin cfg0.N) d, (dats m 0 c).kept w t d = (dats m 0 c).after w t)
    (hprev : ∀ t : Fin cfg0.N, t.val % 8 ≠ 0 → (dats m 0 c).after w t = (dats m 0 c).after w (prev t)) :
    ∀ (n : ℕ) (t : Fin cfg0.N) (_ : t.val = n) (_ : t.val % 8 ≠ 0) (d), (dats m 0 c).before w t d = (dats m 0 c).after w t := by
  intro n
  induction n with
  | zero => intro t h0 ht; omega
  | succ n ih =>
    intro t h0 ht d
    have hp : (prev t).val = n := by show t.val - 1 = n; omega
    rw [(dats m 0 c).before_of_pos w t (by omega) ((cfg0.win w).fetch_out hw t) d]
    show (if (cfg0.win w).flush (prev t) then d else (dats m 0 c).left w (prev t) d) = _
    rw [if_neg (fun h => by have := (hfl (prev t)).1 h; omega), hprev t ht]
    unfold Dat.left
    have hi := hidle (prev t)
    by_cases h8 : (prev t).val % 8 = 0
    · rw [show cfg0.idle w (cfg0.grid.coords (prev t)) = false from by rw [hi, decide_eq_true h8]; rfl]
      exact hkept _ _
    · rw [show cfg0.idle w (cfg0.grid.coords (prev t)) = true from by rw [hi, decide_eq_false h8]; rfl]
      exact ih (prev t) hp h8 d

theorem before7 (c : Dev nD) (t : Fin cfg0.N) (ht : t.val % 8 ≠ 0) (d) : (dats m 0 c).before 7 t d = (dats m 0 c).after 7 t :=
  before_narrow m c 7 rfl idle_eq flush0_7 (fun _ _ => by unfold Dat.kept; dsimp only [dats]; rfl) (after7_prev m c) _ t rfl ht d
theorem before8 (c : Dev nD) (t : Fin cfg0.N) (ht : t.val % 8 ≠ 0) (d) : (dats m 0 c).before 8 t d = (dats m 0 c).after 8 t :=
  before_narrow m c 8 rfl idle_eq flush0_8 (fun _ _ => by unfold Dat.kept; dsimp only [dats]; rfl) (after8_prev m c) _ t rfl ht d
theorem before9 (c : Dev nD) (t : Fin cfg0.N) (ht : t.val % 8 ≠ 0) (d) : (dats m 0 c).before 9 t d = (dats m 0 c).after 9 t :=
  before_narrow m c 9 rfl idle_eq flush0_9 (fun _ _ => by unfold Dat.kept; dsimp only [dats]; rfl) (after9_prev m c) _ t rfl ht d

/-! ## The body obligation -/

/-- What the body is called with at point `t`. -/
def bodyPre (c : Dev nD) (t : Fin cfg0.N) : sProp 𝕄 :=
  iprop(Carry m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it leaves. -/
def bodyPost (c : Dev nD) (t : Fin cfg0.N) : sProp 𝕄 :=
  iprop(Carry m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body where the columns begin. -/
theorem body_first (c : Dev nD) (t : Fin cfg0.N) (ht : t.val % 8 = 0) :
    bodyPre m c t ⊢ wp frame (wpE (defs₀ (F := F)) Variants.none c none) Set.univ (bodyAt0 t) (fun _ => bodyPost m c t) := by
  unfold bodyPre bodyPost bodyAt0 Carry
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9]
  iintro ⟨⟨⟨%X, HX, -⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_first c Set.univ (grid0.coords t) ((cond_iff t).2 ht) _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HX]; · iexists _; iexact HX
  iintro ⟨H0, H1, H2, H3, H4, H5, H6, H7, H8, H9, HX⟩
  isplitl [HX Hr]
  · isplitl [HX]
    · iexists _; isplitl [HX]; · iexact HX
      ipureintro; intro h _; rfl
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at a later point of the columns. -/
theorem body_later (c : Dev nD) (t : Fin cfg0.N) (ht : t.val % 8 ≠ 0) :
    bodyPre m c t ⊢ wp frame (wpE (defs₀ (F := F)) Variants.none c none) Set.univ (bodyAt0 t) (fun _ => bodyPost m c t) := by
  unfold bodyPre bodyPost bodyAt0 Carry
  simp only [before0_0, before0_1, before0_2, before0_3, before0_4, before0_5, before7 m c t ht, before8 m c t ht, before9 m c t ht]
  rw [show (dats m 0 c).owesAt () t.succ = (dats m 0 c).owesAt () t.castSucc from rfl,
    after0_0, after0_1, after0_2, after0_3, after0_4, after0_5, after0_6]
  iintro ⟨⟨⟨%X, HX, %hX⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hX' : X = hrow m c t := (hX (prev t).isLt ht).trans (hrow_prev m c t ht).symm
  subst hX'
  iapply (run_later c Set.univ (grid0.coords t) (fun h => ht ((cond_iff t).1 h)) _ _ _ _ _ _ _ _ _ _ _ _ _ _ _ _ _ _ _ _ _ _ (iblk m c 2 t) (hrow m c t) _)
  isplitl [H2]; · iexact H2
  isplitl [H6]; · iexists _; iexact H6
  isplitl [HX]; · iexact HX
  iintro ⟨H2, H6, HX⟩
  isplitl [HX Hr]
  · isplitl [HX]
    · iexists _; isplitl [HX]; · iexact HX
      ipureintro; intro h _; rfl
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases ht : t.val % 8 = 0
  · exact body_first m c t ht
  · exact body_later m c t ht

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- Contents known at a later point of the columns are contents found there. -/
theorem leave (c : Dev nD) (w : Fin cfg0.W) (t : Fin cfg0.N)
    (hb : cfg0.idle w (cfg0.grid.coords t) = true → ∀ d, (dats m 0 c).before w t d = (dats m 0 c).after w t) :
    owns (c : Thread nD τ) ((cfg0.win w).stage (cfg0.slots t w)) fullShare ((dats m 0 c).after w t)
      ⊢ (match cfg0.idle w (cfg0.grid.coords t) with
        | true =>
          match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t) : sProp 𝕄) := by
  cases h : cfg0.idle w (cfg0.grid.coords t)
  · exact .rfl
  · cases (cfg0.win w).flush t
    · iintro H; iexists ((dats m 0 c).after w t); rw [hb h]; iexact H
    · exact .rfl

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  have hid : ∀ b : Bool, (!decide (t.val % 8 = 0)) = true → t.val % 8 ≠ 0 := fun _ h h0 => by simp [h0] at h
  have l7 := leave m c 7 t fun h => before7 m c t (hid true ((idle_eq t).symm.trans h))
  have l8 := leave m c 8 t fun h => before8 m c t (hid true ((idle_eq t).symm.trans h))
  have l9 := leave m c 9 t fun h => before9 m c t (hid true ((idle_eq t).symm.trans h))
  rw [show (dats m 0 c).Φ t.succ = Carry m c (t.val + 1) from by dsimp only [dats, Fin.val_succ]]
  unfold bodyPost
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply l7; iexact H7
  isplitl [H8]; · iapply l8; iexact H8
  iapply l9; iexact H9

/-! ## The run and the frame -/

/-- At the first point the scratch holds anything. -/
theorem carry_in (c : Dev nD) : Pipeline.ΦA spec0 c ⊢ (dats m 0 c).Φ 0 := by
  show Pipeline.ΦA spec0 c ⊢ Carry m c 0
  unfold Pipeline.ΦA Carry
  rw [scopedRest0_eq]
  iintro ⟨⟨%f, H⟩, Hr⟩
  isplitl [H]
  · iexists f; isplitl [H]
    · rw [owns_whole]; iexact H
    · ipureintro; intro _ h; exact absurd rfl h
  iexact Hr

/-- At the end what it holds is forgotten. -/
theorem carry_out (c : Dev nD) : (dats m 0 c).Φ (Fin.last cfg0.N) ⊢ Pipeline.ΦA spec0 c := by
  show Carry m c _ ⊢ Pipeline.ΦA spec0 c
  unfold Pipeline.ΦA Carry
  rw [scopedRest0_eq]
  simp only [owns_whole]
  iintro ⟨⟨%X, H, -⟩, Hr⟩
  isplitl [H]
  · iexists X; iexact H
  iexact Hr

set_option backward.isDefEq.respectTransparency.types false in
set_option maxHeartbeats 800000 in
/-- The launch: every array of the pipeline ends at what the proof data state, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := carry_in m) (hout := carry_out m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the launch terminates, the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.InBody

end
-- ==== Proof.InValue.lean ====
/- The input projection's results are the reference's. The kernel arranges the columns of the weights before its products
   and the reference arranges the columns of its product: one map of columns serves both. -/
module

public import proofs.«01_k».proof.Defs
public import proofs.«01_k».proof.Proof.InBodyIdeal
public import proofs.«01_k».proof.Proof.Gen.Reference2Ideal.Run
public import proofs.«01_k».proof.Proof.Gen.Reference2Ideal
public import Idealize.ShloMosaic.Lib.Pipeline.ValueKit
public import Idealize.ShloMosaic.Lib.Pointwise
public import Idealize.ShloMosaic.Lib.Claim
public import proofs.«01_k».proof.Proof.Consts

@[expose] public section

set_option maxRecDepth 16384

noncomputable section

namespace Cert.Reference2Ideal.InValue

open Cert.Reference2Ideal Cert.Reference2Ideal.Gen Idealize.ShloMosaic Idealize.ShloMosaic.TcCoe Idealize.SL.Sem

/-- A row `y` over the root of its mean square (the mean's divisor the word `w`), times its gain `g`, at a column. -/
def nrm {n : ℕ} (y g : Fin n → EReal) (w : BitVec 32) (j : Fin n) : EReal :=
  y j * Ideal.rsqrt (Ideal.div (∑ k, y k * y k) (Ideal.ofBits .f32 w) + Ideal.ofBits .f32 897988541#32) * g j

/-- The column of the weights that column `j` of the wide result comes from: the first two stretches of 1024 columns
    bring the two halves of a head together, the rest skip the narrow columns. -/
def col (j : ℕ) : ℕ :=
  if j < 1024 then j / 64 % 2 * 512 + j / 128 * 64 + j % 64
  else if j < 2048 then 1024 + (j / 64 % 2 * 512 + (j - 1024) / 128 * 64 + j % 64)
  else if j < 6144 then j
  else j + 256

theorem col_lt (j : ℕ) (h : j < 8192) : col j < 8528 := by
  unfold col; split_ifs <;> omega

/-- The normalised input, as the reference computes it. -/
def HN (X : FVec Ideal S16x2048x2048 .f32) (G : FVec Ideal S1x2048 .f32) : FVec Ideal S16x2048x2048 .f32 :=
  mulf (mulf X (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X X) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ G shapeCasts_S1x2048_S2048)))

/-- The product of the normalised input `H` with the weights, its rows in one axis. -/
def PROJ (H : FVec Ideal S16x2048x2048 .f32) (W : FVec Ideal S1x2048x8528 .f32) : FVec Ideal S32768x8528 .f32 :=
  shapeCast _ (Host.dotGeneral dot_S16x2048x2048_S2048x8528_S16x2048x8528_2_0_01_1_n_n none H (shapeCast _ W shapeCasts_S1x2048x8528_S2048x8528)) shapeCasts_S16x2048x8528_S32768x8528

/-- The wide result of the product `P`. -/
def MAIN (P : FVec Ideal S32768x8528 .f32) : FVec Ideal S32768x8192 .bf16 :=
  truncf .bf16 ((concatenate S32768x8192 1 [⟨S32768x1024, ((shapeCast _ (transpose S32768x8x2x64 [0, 2, 1, 3] (shapeCast _ (extractStridedSlice S32768x1024 ![0, 0] P slices_S32768x8528_S32768x1024_0_0) shapeCasts_S32768x1024_S32768x2x8x64) transposes_S32768x2x8x64_S32768x8x2x64_0_2_1_3) shapeCasts_S32768x8x2x64_S32768x1024) : (⟨S32768x1024, .f32⟩ : BufTy).Contents (Elt Ideal))⟩, ⟨S32768x1024, ((shapeCast _ (transpose S32768x8x2x64 [0, 2, 1, 3] (shapeCast _ (extractStridedSlice S32768x1024 ![0, 1024] P slices_S32768x8528_S32768x1024_0_1024) shapeCasts_S32768x1024_S32768x2x8x64) transposes_S32768x2x8x64_S32768x8x2x64_0_2_1_3) shapeCasts_S32768x8x2x64_S32768x1024) : (⟨S32768x1024, .f32⟩ : BufTy).Contents (Elt Ideal))⟩, ⟨S32768x1024, ((extractStridedSlice S32768x1024 ![0, 2048] P slices_S32768x8528_S32768x1024_0_2048) : (⟨S32768x1024, .f32⟩ : BufTy).Contents (Elt Ideal))⟩, ⟨S32768x1024, ((extractStridedSlice S32768x1024 ![0, 3072] P slices_S32768x8528_S32768x1024_0_3072) : (⟨S32768x1024, .f32⟩ : BufTy).Contents (Elt Ideal))⟩, ⟨S32768x2048, ((extractStridedSlice S32768x2048 ![0, 4096] P slices_S32768x8528_S32768x2048_0_4096) : (⟨S32768x2048, .f32⟩ : BufTy).Contents (Elt Ideal))⟩, ⟨S32768x1024, ((extractStridedSlice S32768x1024 ![0, 6400] P slices_S32768x8528_S32768x1024_0_6400) : (⟨S32768x1024, .f32⟩ : BufTy).Contents (Elt Ideal))⟩, ⟨S32768x1024, ((extractStridedSlice S32768x1024 ![0, 7424] P slices_S32768x8528_S32768x1024_0_7424) : (⟨S32768x1024, .f32⟩ : BufTy).Contents (Elt Ideal))⟩] concatenates_S32768x1024_S32768x1024_S32768x1024_S32768x1024_S32768x2048_S32768x1024_S32768x1024_S32768x8192_d1 : (⟨S32768x8192, .f32⟩ : BufTy).Contents (Elt Ideal))) bitsLt_bf16_f32

/-- The compressed keys and values of the product `P`. -/
def CKV (P : FVec Ideal S32768x8528 .f32) (K : FVec Ideal S1x256 .f32) : FVec Ideal S32768x256 .bf16 :=
  truncf .bf16 (mulf (mulf (extractStridedSlice S32768x256 ![0, 6144] P slices_S32768x8528_S32768x256_0_6144) (broadcastInDim S32768x256 ![0, 1] bcast_S32768x1_S32768x256_0_1 (Host.rsqrt (addf (Host.divf (broadcastInDim S32768x1 ![0] bcast_S32768_S32768x1_0 (Host.reduceAdd (mulf (extractStridedSlice S32768x256 ![0, 6144] P slices_S32768x8528_S32768x256_0_6144) (extractStridedSlice S32768x256 ![0, 6144] P slices_S32768x8528_S32768x256_0_6144)) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32)))))) (broadcastInDim S32768x256 ![0, 1] bcast_S1x256_S32768x256_0_1 (broadcastInDim S1x256 ![1] bcast_S256_S1x256_1 (shapeCast _ K shapeCasts_S1x256_S256)))) bitsLt_bf16_f32

/-- The index keys of the product `P`, twice side by side. -/
def IK (P : FVec Ideal S32768x8528 .f32) (K : FVec Ideal S1x64 .f32) : FVec Ideal S32768x128 .bf16 :=
  truncf .bf16 (concatenate S32768x128 1 [⟨S32768x64, (mulf (mulf (extractStridedSlice S32768x64 ![0, 8448] P slices_S32768x8528_S32768x64_0_8448) (broadcastInDim S32768x64 ![0, 1] bcast_S32768x1_S32768x64_0_1 (Host.rsqrt (addf (Host.divf (broadcastInDim S32768x1 ![0] bcast_S32768_S32768x1_0 (Host.reduceAdd (mulf (extractStridedSlice S32768x64 ![0, 8448] P slices_S32768x8528_S32768x64_0_8448) (extractStridedSlice S32768x64 ![0, 8448] P slices_S32768x8528_S32768x64_0_8448)) (constant S_ .f32 0x00000000#32) reducesTo_S32768x64_S32768_d1 h_S_)) (broadcastInDim S32768x1 ![] bcast_S_S32768x1 (constant S_ .f32 0x42800000#32))) (broadcastInDim S32768x1 ![] bcast_S_S32768x1 (constant S_ .f32 0x358637BD#32)))))) (broadcastInDim S32768x64 ![0, 1] bcast_S1x64_S32768x64_0_1 (broadcastInDim S1x64 ![1] bcast_S64_S1x64_1 (shapeCast _ K shapeCasts_S1x64_S64))))⟩, ⟨S32768x64, (mulf (mulf (extractStridedSlice S32768x64 ![0, 8448] P slices_S32768x8528_S32768x64_0_8448) (broadcastInDim S32768x64 ![0, 1] bcast_S32768x1_S32768x64_0_1 (Host.rsqrt (addf (Host.divf (broadcastInDim S32768x1 ![0] bcast_S32768_S32768x1_0 (Host.reduceAdd (mulf (extractStridedSlice S32768x64 ![0, 8448] P slices_S32768x8528_S32768x64_0_8448) (extractStridedSlice S32768x64 ![0, 8448] P slices_S32768x8528_S32768x64_0_8448)) (constant S_ .f32 0x00000000#32) reducesTo_S32768x64_S32768_d1 h_S_)) (broadcastInDim S32768x1 ![] bcast_S_S32768x1 (constant S_ .f32 0x42800000#32))) (broadcastInDim S32768x1 ![] bcast_S_S32768x1 (constant S_ .f32 0x358637BD#32)))))) (broadcastInDim S32768x64 ![0, 1] bcast_S1x64_S32768x64_0_1 (broadcastInDim S1x64 ![1] bcast_S64_S1x64_1 (shapeCast _ K shapeCasts_S1x64_S64))))⟩] concatenates_S32768x64_S32768x64_S32768x128_d1) bitsLt_bf16_f32

/-- The index weights of the product `P`, filled with zeros. -/
def IW (P : FVec Ideal S32768x8528 .f32) : FVec Ideal S32768x128 .f32 :=
  concatenate S32768x128 1 [⟨S32768x16, (extractStridedSlice S32768x16 ![0, 8512] P slices_S32768x8528_S32768x16_0_8512)⟩, ⟨S32768x112, (broadcastInDim S32768x112 ![] bcast_S_S32768x112 (constant S_ .f32 0x00000000#32))⟩] concatenates_S32768x16_S32768x112_S32768x128_d1

/-- The normalised input at an index. -/
theorem hn_at (X : FVec Ideal S16x2048x2048 .f32) (G : FVec Ideal S1x2048 .f32) (b : Fin 16) (r k : Fin 2048) :
    HN X G (ix3 b r k) = nrm (fun k => X (ix3 b r k)) (fun k => G (ix2 0 k)) 1157627904#32 k := by
  pointwise [HN, nrm]

/-- The product at an index. -/
theorem proj_at (H : FVec Ideal S16x2048x2048 .f32) (W : FVec Ideal S1x2048x8528 .f32) (b : Fin 16) (r : Fin 2048) (j : Fin 8528) :
    PROJ H W (ix2 ⟨b * 2048 + r, by omega⟩ j) = ∑ k : Fin 2048, H (ix3 b r k) * W (ix3 0 k j) := by
  pointwise [PROJ]

/-- The wide result at an index. -/
theorem main_at (P : FVec Ideal S32768x8528 .f32) (ρ : Fin 32768) (j : Fin 8192) :
    MAIN P (ix2 ρ j) = P (ix2 ρ ⟨col j, col_lt j j.isLt⟩) := by
  pointwise [MAIN]
  split_ifs <;> (refine congrArg (fun q => P (ix2 ρ q)) (Fin.ext ?_); simp only [col]; split_ifs <;> omega)

/-- The compressed keys and values at an index. -/
theorem ckv_at (P : FVec Ideal S32768x8528 .f32) (K : FVec Ideal S1x256 .f32) (ρ : Fin 32768) (j : Fin 256) :
    CKV P K (ix2 ρ j) = nrm (fun k : Fin 256 => P (ix2 ρ ⟨6144 + k, by omega⟩)) (fun k => K (ix2 0 k)) 1132462080#32 j := by
  pointwise [CKV, nrm]

/-- The index keys at an index. -/
theorem ik_at (P : FVec Ideal S32768x8528 .f32) (K : FVec Ideal S1x64 .f32) (ρ : Fin 32768) (j : Fin 128) :
    IK P K (ix2 ρ j) = nrm (fun k : Fin 64 => P (ix2 ρ ⟨8448 + k, by omega⟩)) (fun k => K (ix2 0 k)) 1115684864#32 ⟨j % 64, by omega⟩ := by
  pointwise [IK, nrm]
  by_cases h : (j : ℕ) < 64
  · have hj : (j : ℕ) % 64 = j := by omega
    simp only [dif_pos h, hj]
  · have hj : (j : ℕ) % 64 = j - 64 := by omega
    simp only [dif_neg h, hj]

/-- The index weights at an index. -/
theorem iw_at (P : FVec Ideal S32768x8528 .f32) (ρ : Fin 32768) (j : Fin 128) :
    IW P (ix2 ρ j) = if h : (j : ℕ) < 16 then P (ix2 ρ ⟨8512 + j, by omega⟩) else 0 := by
  pointwise [IW]

end Cert.Reference2Ideal.InValue

namespace Cert.Kernel2Ideal.InValue

open Cert.Kernel2Ideal Cert.Kernel2Ideal.Gen Cert.Kernel2Ideal.InBody Idealize.ShloMosaic Idealize.ShloMosaic.TcCoe Idealize.SL.Sem

/-- The pairs of a head brought together: columns `(g, h, d)` in the order `(h, g, d)`. -/
def heads (u : FVec Ideal S2048x1024 .f32) : FVec Ideal S2048x1024 .f32 :=
  shapeCast S2048x1024 (transpose S2048x8x2x64 [0, 2, 1, 3] (shapeCast S2048x2x8x64 u shapeCasts_S2048x1024_S2048x2x8x64) transposes_S2048x2x8x64_S2048x8x2x64_0_2_1_3) shapeCasts_S2048x8x2x64_S2048x1024

/-- The weights without their leading axis. -/
def flat (W : FVec Ideal S1x2048x8528 .f32) : FVec Ideal S2048x8528 .f32 := shapeCast S2048x8528 W shapeCasts_S1x2048x8528_S2048x8528

/-- The wide weights as the kernel arranges them. -/
def wmain (W : FVec Ideal S1x2048x8528 .f32) : FVec Ideal S2048x8192 .bf16 :=
  truncf .bf16 (concatenate S2048x8192 1 [⟨S2048x1024, heads (extractStridedSlice S2048x1024 ![0, 0] (flat W) slices_S2048x8528_S2048x1024_0_0)⟩,
    ⟨S2048x1024, heads (extractStridedSlice S2048x1024 ![0, 1024] (flat W) slices_S2048x8528_S2048x1024_0_1024)⟩,
    ⟨S2048x1024, extractStridedSlice S2048x1024 ![0, 2048] (flat W) slices_S2048x8528_S2048x1024_0_2048⟩,
    ⟨S2048x1024, extractStridedSlice S2048x1024 ![0, 3072] (flat W) slices_S2048x8528_S2048x1024_0_3072⟩,
    ⟨S2048x2048, extractStridedSlice S2048x2048 ![0, 4096] (flat W) slices_S2048x8528_S2048x2048_0_4096⟩,
    ⟨S2048x1024, extractStridedSlice S2048x1024 ![0, 6400] (flat W) slices_S2048x8528_S2048x1024_0_6400⟩,
    ⟨S2048x1024, extractStridedSlice S2048x1024 ![0, 7424] (flat W) slices_S2048x8528_S2048x1024_0_7424⟩]
    concatenates_S2048x1024_S2048x1024_S2048x1024_S2048x1024_S2048x2048_S2048x1024_S2048x1024_S2048x8192_d1) bitsLt_bf16_f32

/-- The narrow weights as the kernel arranges them: the compressed keys', the index keys' twice, the index weights', zeros. -/
def wsmall (W : FVec Ideal S1x2048x8528 .f32) : FVec Ideal S2048x512 .bf16 :=
  truncf .bf16 (concatenate S2048x512 1 [⟨S2048x256, extractStridedSlice S2048x256 ![0, 6144] (flat W) slices_S2048x8528_S2048x256_0_6144⟩,
    ⟨S2048x64, extractStridedSlice S2048x64 ![0, 8448] (flat W) slices_S2048x8528_S2048x64_0_8448⟩,
    ⟨S2048x64, extractStridedSlice S2048x64 ![0, 8448] (flat W) slices_S2048x8528_S2048x64_0_8448⟩,
    ⟨S2048x16, extractStridedSlice S2048x16 ![0, 8512] (flat W) slices_S2048x8528_S2048x16_0_8512⟩,
    ⟨S2048x112, broadcastInDim S2048x112 ![] bcast_S_S2048x112 (constant S_ .f32 0x00000000#32)⟩]
    concatenates_S2048x256_S2048x64_S2048x64_S2048x16_S2048x112_S2048x512_d1) bitsLt_bf16_f32

open Cert.Reference2Ideal.InValue (nrm col col_lt HN PROJ MAIN CKV IK IW hn_at proj_at main_at ckv_at ik_at iw_at)

variable (m : (ℓ : Loc nD τ sig) → Buf (Elt Ideal) ℓ)

set_option maxHeartbeats 4000000 in
/-- What the region finds as wide weights. -/
theorem V_wmain (c : Dev nD) : V m c main_v21 = wmain (m ((c : Thread nD τ).loc main_arg2)) := by
  unfold V
  after_results_simp <;> (try dsimp only [Matrix.cons_val]) <;> (try after_results_simp) <;> rfl

set_option maxHeartbeats 4000000 in
/-- What the region finds as narrow weights. -/
theorem V_wsmall (c : Dev nD) : V m c main_v22 = wsmall (m ((c : Thread nD τ).loc main_arg2)) := by
  unfold V
  after_results_simp <;> (try dsimp only [Matrix.cons_val]) <;> (try after_results_simp) <;> rfl

/-- The wide weights at an index. -/
theorem wmain_at (W : FVec Ideal S1x2048x8528 .f32) (k : Fin 2048) (j : Fin 8192) :
    wmain W (ix2 k j) = W (ix3 0 k ⟨col j, col_lt j j.isLt⟩) := by
  pointwise [wmain, heads, flat]
  split_ifs <;> (refine congrArg (fun q => W (ix3 0 k q)) (Fin.ext ?_); simp only [col]; split_ifs <;> omega)

/-- The narrow weights at an index, by stretches of columns. -/
theorem wsmall_ckv (W : FVec Ideal S1x2048x8528 .f32) (k : Fin 2048) (j : Fin 256) :
    wsmall W (ix2 k ⟨j, by omega⟩) = W (ix3 0 k ⟨6144 + j, by omega⟩) := by
  pointwise [wsmall, flat]
theorem wsmall_ik (W : FVec Ideal S1x2048x8528 .f32) (k : Fin 2048) (j : Fin 128) :
    wsmall W (ix2 k ⟨256 + j, by omega⟩) = W (ix3 0 k ⟨8448 + j % 64, by omega⟩) := by
  pointwise [wsmall, flat]
  split_ifs <;> first
    | omega
    | exact congrArg (fun q => W (ix3 0 k q)) (Fin.ext (by (try simp only); omega))
theorem wsmall_iw (W : FVec Ideal S1x2048x8528 .f32) (k : Fin 2048) (j : Fin 128) :
    wsmall W (ix2 k ⟨384 + j, by omega⟩) = if h : (j : ℕ) < 16 then W (ix3 0 k ⟨8512 + j, by omega⟩) else 0 := by
  pointwise [wsmall, flat]
  have e1 : ¬ 384 + (j : ℕ) < 256 := by omega
  have e2 : ¬ 384 + (j : ℕ) - 256 < 64 := by omega
  have e3 : ¬ 384 + (j : ℕ) - 256 - 64 < 64 := by omega
  have hj : 384 + (j : ℕ) - 256 - 64 - 64 = j := by omega
  simp only [dif_neg e1, dif_neg e2, dif_neg e3, hj]

/-- The normalised row at a column. -/
theorem pay5_at (x : Vec Ideal S1024x2048 .f32) (g : Vec Ideal S1x2048 .f32) (i : Fin 1024) (k : Fin 2048) :
    k0_pay5 x g (ix2 i k) = nrm (fun k => x (ix2 i k)) (fun k => g (ix2 0 k)) 1157627904#32 k := by
  pointwise [k0_pay5, k0_pay4, nrm]

theorem pay3_at (h : Vec Ideal S1024x2048 .bf16) (w : Vec Ideal S2048x1024 .bf16) (i : Fin 1024) (j : Fin 1024) :
    k0_pay3 h w (ix2 i j) = ∑ k : Fin 2048, h (ix2 i k) * w (ix2 k j) := by
  pointwise [k0_pay3]

theorem pay6_at (x : Vec Ideal S1024x2048 .f32) (g : Vec Ideal S1x2048 .f32) (w : Vec Ideal S2048x512 .bf16) (i : Fin 1024) (j : Fin 512) :
    k0_pay6 x g w (ix2 i j) = ∑ k : Fin 2048, nrm (fun k => x (ix2 i k)) (fun k => g (ix2 0 k)) 1157627904#32 k * w (ix2 k j) := by
  pointwise [k0_pay6, k0_pay4, nrm]

theorem pay7_at (x : Vec Ideal S1024x2048 .f32) (g : Vec Ideal S1x2048 .f32) (w : Vec Ideal S2048x512 .bf16) (g' : Vec Ideal S1x256 .f32)
    (i : Fin 1024) (j : Fin 256) :
    k0_pay7 x g w g' (ix2 i j) = nrm (fun k => k0_pay6 x g w (ix2 i ⟨k, by omega⟩)) (fun k => g' (ix2 0 k)) 1132462080#32 j := by
  pointwise [k0_pay7, nrm]

theorem pay1_at (v : FVec Ideal S1024x512 .f32) (g' : Vec Ideal S1x128 .f32) (i : Fin 1024) (j : Fin 128) :
    k0_pay1 v g' (ix2 i j) = v (ix2 i ⟨256 + j, by omega⟩)
      * Ideal.rsqrt ((∑ k : Fin 128, v (ix2 i ⟨256 + k, by omega⟩) * v (ix2 i ⟨256 + k, by omega⟩)) * Ideal.ofBits .f32 1006632960#32
        + Ideal.ofBits .f32 897988541#32) * g' (ix2 0 j) := by
  pointwise [k0_pay1]

theorem pay2_at (v : FVec Ideal S1024x512 .f32) (i : Fin 1024) (j : Fin 128) :
    k0_pay2 v (ix2 i j) = v (ix2 i ⟨384 + j, by omega⟩) := by
  pointwise [k0_pay2]
/-! ## The blocks at an index -/

/-- The block indices of every window at every grid point. -/
theorem idx : ∀ t : Fin cfg0.N, win0_0.index t = ![t.val / 8, 0] ∧ win0_1.index t = ![0, 0] ∧ win0_2.index t = ![0, t.val % 8]
    ∧ win0_3.index t = ![0, 0] ∧ win0_4.index t = ![0, 0] ∧ win0_5.index t = ![0, 0] ∧ win0_6.index t = ![t.val / 8, t.val % 8]
    ∧ win0_7.index t = ![t.val / 8, 0] ∧ win0_8.index t = ![t.val / 8, 0] ∧ win0_9.index t = ![t.val / 8, 0] ∧ t.val < 256 :=
  (by decide +kernel : ∀ t : Fin grid0.N, _)

set_option maxHeartbeats 4000000 in
/-- What the region finds as input rows. -/
theorem V_x (c : Dev nD) : V m c main_v0 = shapeCast S32768x2048 (m ((c : Thread nD τ).loc main_arg0)) shapeCasts_S16x2048x2048_S32768x2048 := by
  unfold V
  after_results_simp <;> (try dsimp only [Matrix.cons_val]) <;> (try after_results_simp) <;> rfl

/-- A gain row, reshaped twice. -/
def gain2 (G : FVec Ideal S1x2048 .f32) : FVec Ideal S1x2048 .f32 := shapeCast S1x2048 (shapeCast S2048 G shapeCasts_S1x2048_S2048) shapeCasts_S2048_S1x2048

/-- The compressed keys' gain row, reshaped twice. -/
def gain4 (G : FVec Ideal S1x256 .f32) : FVec Ideal S1x256 .f32 := shapeCast S1x256 (shapeCast S256 G shapeCasts_S1x256_S256) shapeCasts_S256_S1x256

/-- The index keys' gain, twice side by side. -/
def gain5 (G : FVec Ideal S1x64 .f32) : FVec Ideal S1x128 .f32 :=
  shapeCast S1x128 (concatenate S128 0 [⟨S64, shapeCast S64 G shapeCasts_S1x64_S64⟩, ⟨S64, shapeCast S64 G shapeCasts_S1x64_S64⟩] concatenates_S64_S64_S128_d0) shapeCasts_S128_S1x128

/-- The gain rows at an index. -/
theorem gain2_at (G : FVec Ideal S1x2048 .f32) (k : Fin 2048) : gain2 G (ix2 0 k) = G (ix2 0 k) := by
  pointwise [gain2]
theorem gain4_at (G : FVec Ideal S1x256 .f32) (k : Fin 256) : gain4 G (ix2 0 k) = G (ix2 0 k) := by
  pointwise [gain4]
theorem gain5_at (G : FVec Ideal S1x64 .f32) (j : Fin 128) : gain5 G (ix2 0 j) = G (ix2 0 ⟨j % 64, by omega⟩) := by
  pointwise [gain5]
  by_cases h : (j : ℕ) < 64
  · have hj : (j : ℕ) % 64 = j := by omega
    simp only [dif_pos h, hj]
  · have hj : (j : ℕ) % 64 = j - 64 := by omega
    simp only [dif_neg h, hj]

set_option maxHeartbeats 4000000 in
/-- What the region finds as gain row. -/
theorem V_g (c : Dev nD) : V m c main_v27 = gain2 (m ((c : Thread nD τ).loc main_arg1)) := by
  unfold V
  after_results_simp <;> (try dsimp only [Matrix.cons_val]) <;> (try after_results_simp) <;> rfl

set_option maxHeartbeats 4000000 in
/-- What the region finds as the compressed keys' gain. -/
theorem V_kg (c : Dev nD) : V m c main_v29 = gain4 (m ((c : Thread nD τ).loc main_arg3)) := by
  unfold V
  after_results_simp <;> (try dsimp only [Matrix.cons_val]) <;> (try after_results_simp) <;> rfl

set_option maxHeartbeats 4000000 in
/-- What the region finds as the index keys' gain. -/
theorem V_ig (c : Dev nD) : V m c main_v30 = gain5 (m ((c : Thread nD τ).loc main_arg4)) := by
  unfold V
  after_results_simp <;> (try dsimp only [Matrix.cons_val]) <;> (try after_results_simp) <;> rfl

/-- The input block at an index. -/
theorem x_at (c : Dev nD) (t : Fin cfg0.N) (y : Fin 1024) (k : Fin 2048) (b : Fin 16) (r : Fin 2048)
    (h0 : (b * 2048 + r : ℕ) = t.val / 8 * 1024 + (y : ℕ)) :
    iblk m c 0 t (ix2 y k) = m ((c : Thread nD τ).loc main_arg0) (ix3 b r k) := by
  have hb : (t.val / 8 * 1024 + y) / 2048 = b := by omega
  have hr : (t.val / 8 * 1024 + y) % 2048 = r := by omega
  blk_point [iblk, V_x, idx t]

/-- The gain block at an index. -/
theorem g_at (c : Dev nD) (t : Fin cfg0.N) (k : Fin 2048) :
    iblk m c 1 t (ix2 0 k) = m ((c : Thread nD τ).loc main_arg1) (ix2 0 k) := by
  have h : iblk m c 1 t (ix2 0 k) = gain2 (m ((c : Thread nD τ).loc main_arg1)) (ix2 0 k) := by
    blk_point [iblk, V_g, idx t]
  rw [h, gain2_at]

/-- The block of the wide weights at an index. -/
theorem w_at (c : Dev nD) (t : Fin cfg0.N) (k : Fin 2048) (j : Fin 1024) (q : Fin 8192) (hq : (q : ℕ) = t.val % 8 * 1024 + j) :
    iblk m c 2 t (ix2 k j) = wmain (m ((c : Thread nD τ).loc main_arg2)) (ix2 k q) := by
  have hV := V_wmain m c
  generalize wmain (m ((c : Thread nD τ).loc main_arg2)) = W at hV ⊢
  blk_point [iblk, hV, idx t]

/-- The block of the narrow weights at an index. -/
theorem s_at (c : Dev nD) (t : Fin cfg0.N) (k : Fin 2048) (j : Fin 512) :
    iblk m c 3 t (ix2 k j) = wsmall (m ((c : Thread nD τ).loc main_arg2)) (ix2 k j) := by
  have hV := V_wsmall m c
  generalize wsmall (m ((c : Thread nD τ).loc main_arg2)) = W at hV ⊢
  blk_point [iblk, hV, idx t]

/-- The compressed keys' gain at an index. -/
theorem kg_at (c : Dev nD) (t : Fin cfg0.N) (k : Fin 256) :
    iblk m c 4 t (ix2 0 k) = m ((c : Thread nD τ).loc main_arg3) (ix2 0 k) := by
  have h : iblk m c 4 t (ix2 0 k) = gain4 (m ((c : Thread nD τ).loc main_arg3)) (ix2 0 k) := by
    blk_point [iblk, V_kg, idx t]
  rw [h, gain4_at]

/-- The index keys' gain, twice side by side. -/
theorem ig_at (c : Dev nD) (t : Fin cfg0.N) (j : Fin 128) :
    iblk m c 5 t (ix2 0 j) = m ((c : Thread nD τ).loc main_arg4) (ix2 0 ⟨j % 64, by omega⟩) := by
  have h : iblk m c 5 t (ix2 0 j) = gain5 (m ((c : Thread nD τ).loc main_arg4)) (ix2 0 j) := by
    blk_point [iblk, V_ig, idx t]
  rw [h, gain5_at]

/-! ## The values -/

/-- The reference's product over the kernel's arguments. -/
def proj (m : (ℓ : Loc nD τ sig) → Buf (Elt Ideal) ℓ) (c : Dev nD) : FVec Ideal Cert.Reference2Ideal.S32768x8528 .f32 :=
  PROJ (HN (m ((c : Thread nD τ).loc main_arg0)) (m ((c : Thread nD τ).loc main_arg1))) (m ((c : Thread nD τ).loc main_arg2))

/-- The product at row `b * 2048 + r`: the normalised row against a column of the weights. -/
theorem projm_at (c : Dev nD) (b : Fin 16) (r : Fin 2048) (j : Fin 8528) :
    proj m c (ix2 ⟨b * 2048 + r, by omega⟩ j)
      = ∑ k : Fin 2048, nrm (fun k => m ((c : Thread nD τ).loc main_arg0) (ix3 b r k)) (fun k => m ((c : Thread nD τ).loc main_arg1) (ix2 0 k)) 1157627904#32 k
          * m ((c : Thread nD τ).loc main_arg2) (ix3 0 k j) := by
  unfold proj
  rw [proj_at]
  simp only [hn_at]

/-- The wide block at an index. -/
theorem point6 (c : Dev nD) (t : Fin cfg0.N) (y : Fin 1024) (j : Fin 1024) (q : Fin 8192) (hq : (q : ℕ) = t.val % 8 * 1024 + j)
    (b : Fin 16) (r : Fin 2048) (h0 : (b * 2048 + r : ℕ) = t.val / 8 * 1024 + (y : ℕ)) :
    k0_pay3 (k0_pay5 (iblk m c 0 t) (iblk m c 1 t)) (iblk m c 2 t) (ix2 y j) = MAIN (proj m c) (ix2 ⟨b * 2048 + r, by omega⟩ q) := by
  rw [main_at, projm_at, pay3_at]
  refine Finset.sum_congr rfl fun k _ => ?_
  rw [pay5_at, w_at m c t k j q hq, wmain_at]
  simp only [fun k => x_at m c t y k b r h0, g_at]

/-- The narrow product at an index, over the narrow weights. -/
theorem narrow_at (c : Dev nD) (t : Fin cfg0.N) (y : Fin 1024) (j : Fin 512) (b : Fin 16) (r : Fin 2048)
    (h0 : (b * 2048 + r : ℕ) = t.val / 8 * 1024 + (y : ℕ)) :
    k0_pay6 (iblk m c 0 t) (iblk m c 1 t) (iblk m c 3 t) (ix2 y j)
      = ∑ k : Fin 2048, nrm (fun k => m ((c : Thread nD τ).loc main_arg0) (ix3 b r k)) (fun k => m ((c : Thread nD τ).loc main_arg1) (ix2 0 k)) 1157627904#32 k
          * wsmall (m ((c : Thread nD τ).loc main_arg2)) (ix2 k j) := by
  rw [pay6_at]
  refine Finset.sum_congr rfl fun k _ => ?_
  rw [s_at]
  simp only [fun k => x_at m c t y k b r h0, g_at]

/-- The narrow product's first 256 columns are the reference's compressed keys and values. -/
theorem narrow_ckv (c : Dev nD) (t : Fin cfg0.N) (y : Fin 1024) (j : Fin 256) (b : Fin 16) (r : Fin 2048)
    (h0 : (b * 2048 + r : ℕ) = t.val / 8 * 1024 + (y : ℕ)) :
    k0_pay6 (iblk m c 0 t) (iblk m c 1 t) (iblk m c 3 t) (ix2 y ⟨j, by omega⟩) = proj m c (ix2 ⟨b * 2048 + r, by omega⟩ ⟨6144 + j, by omega⟩) := by
  rw [projm_at, narrow_at m c t y _ b r h0]
  simp only [wsmall_ckv]

/-- Its next 128 columns are the reference's index keys, twice. -/
theorem narrow_ik (c : Dev nD) (t : Fin cfg0.N) (y : Fin 1024) (j : Fin 128) (b : Fin 16) (r : Fin 2048)
    (h0 : (b * 2048 + r : ℕ) = t.val / 8 * 1024 + (y : ℕ)) :
    k0_pay6 (iblk m c 0 t) (iblk m c 1 t) (iblk m c 3 t) (ix2 y ⟨256 + j, by omega⟩) = proj m c (ix2 ⟨b * 2048 + r, by omega⟩ ⟨8448 + j % 64, by omega⟩) := by
  rw [projm_at, narrow_at m c t y _ b r h0]
  simp only [wsmall_ik]

/-- Its last 128 columns are the reference's index weights, then zeros. -/
theorem narrow_iw (c : Dev nD) (t : Fin cfg0.N) (y : Fin 1024) (j : Fin 128) (b : Fin 16) (r : Fin 2048)
    (h0 : (b * 2048 + r : ℕ) = t.val / 8 * 1024 + (y : ℕ)) :
    k0_pay6 (iblk m c 0 t) (iblk m c 1 t) (iblk m c 3 t) (ix2 y ⟨384 + j, by omega⟩)
      = if h : (j : ℕ) < 16 then proj m c (ix2 ⟨b * 2048 + r, by omega⟩ ⟨8512 + j, by omega⟩) else 0 := by
  rw [narrow_at m c t y _ b r h0]
  simp only [wsmall_iw]
  by_cases h : (j : ℕ) < 16
  · simp only [dif_pos h]
    rw [projm_at]
  · simp only [dif_neg h, mul_zero, Finset.sum_const_zero]

/-- The compressed keys' block at an index. -/
theorem point7 (c : Dev nD) (t : Fin cfg0.N) (y : Fin 1024) (j : Fin 256)
    (b : Fin 16) (r : Fin 2048) (h0 : (b * 2048 + r : ℕ) = t.val / 8 * 1024 + (y : ℕ)) :
    k0_pay7 (iblk m c 0 t) (iblk m c 1 t) (iblk m c 3 t) (iblk m c 4 t) (ix2 y j)
      = CKV (proj m c) (m ((c : Thread nD τ).loc main_arg3)) (ix2 ⟨b * 2048 + r, by omega⟩ j) := by
  rw [ckv_at, pay7_at]
  simp only [fun k => narrow_ckv m c t y k b r h0, kg_at]

/-- The index keys' block at an index: the mean over the doubled columns is the mean over the single ones. -/
theorem point8 (c : Dev nD) (t : Fin cfg0.N) (y : Fin 1024) (j : Fin 128)
    (b : Fin 16) (r : Fin 2048) (h0 : (b * 2048 + r : ℕ) = t.val / 8 * 1024 + (y : ℕ)) :
    k0_pay1 (k0_pay6 (iblk m c 0 t) (iblk m c 1 t) (iblk m c 3 t)) (iblk m c 5 t) (ix2 y j)
      = IK (proj m c) (m ((c : Thread nD τ).loc main_arg4)) (ix2 ⟨b * 2048 + r, by omega⟩ j) := by
  rw [ik_at, pay1_at]
  simp only [fun k => narrow_ik m c t y k b r h0, ig_at, nrm]
  rw [Cert.Consts.sum_twice (fun k : Fin 64 => proj m c (ix2 ⟨b * 2048 + r, by omega⟩ ⟨8448 + k, by omega⟩)
    * proj m c (ix2 ⟨b * 2048 + r, by omega⟩ ⟨8448 + k, by omega⟩)), Cert.Consts.twice_mean]

/-- The index weights' block at an index. -/
theorem point9 (c : Dev nD) (t : Fin cfg0.N) (y : Fin 1024) (j : Fin 128)
    (b : Fin 16) (r : Fin 2048) (h0 : (b * 2048 + r : ℕ) = t.val / 8 * 1024 + (y : ℕ)) :
    k0_pay2 (k0_pay6 (iblk m c 0 t) (iblk m c 1 t) (iblk m c 3 t)) (ix2 y j) = IW (proj m c) (ix2 ⟨b * 2048 + r, by omega⟩ j) := by
  rw [iw_at, pay2_at, narrow_iw m c t y j b r h0]

/-- A row of the arrays as its two coordinates. -/
theorem row_split (j0 : Fin 32768) : j0 = ⟨(j0 : ℕ) / 2048 * 2048 + (j0 : ℕ) % 2048, by omega⟩ := Fin.ext (by simp only; omega)

/-- The blocks at any of their indices and the array's index it lies at. -/
theorem at6 (c : Dev nD) (t : Fin cfg0.N) (y : S1024x1024.Idx) (j : S32768x8192.Idx)
    (h0 : (j 0 : ℕ) = t.val / 8 * 1024 + (y 0 : ℕ)) (h1 : (j 1 : ℕ) = t.val % 8 * 1024 + (y 1 : ℕ)) :
    k0_pay3 (k0_pay5 (iblk m c 0 t) (iblk m c 1 t)) (iblk m c 2 t) y = MAIN (proj m c) j := by
  idx_vars y
  idx_vars j
  have hlt : (j0 : ℕ) < 32768 := j0.isLt
  have h0' : (j0 : ℕ) = t.val / 8 * 1024 + (y0 : ℕ) := h0
  have h1' : (j1 : ℕ) = t.val % 8 * 1024 + (y1 : ℕ) := h1
  rw [row_split j0]
  exact point6 m c t y0 y1 j1 h1' ⟨(j0 : ℕ) / 2048, by omega⟩ ⟨(j0 : ℕ) % 2048, by omega⟩ (by simp only; omega)
theorem at7 (c : Dev nD) (t : Fin cfg0.N) (y : S1024x256.Idx) (j : S32768x256.Idx)
    (h0 : (j 0 : ℕ) = t.val / 8 * 1024 + (y 0 : ℕ)) (h1 : (j 1 : ℕ) = y 1) :
    k0_pay7 (iblk m c 0 t) (iblk m c 1 t) (iblk m c 3 t) (iblk m c 4 t) y = CKV (proj m c) (m ((c : Thread nD τ).loc main_arg3)) j := by
  idx_vars y
  idx_vars j
  have hlt : (j0 : ℕ) < 32768 := j0.isLt
  have h0' : (j0 : ℕ) = t.val / 8 * 1024 + (y0 : ℕ) := h0
  obtain rfl : j1 = y1 := Fin.ext h1
  rw [row_split j0]
  exact point7 m c t y0 j1 ⟨(j0 : ℕ) / 2048, by omega⟩ ⟨(j0 : ℕ) % 2048, by omega⟩ (by simp only; omega)
theorem at8 (c : Dev nD) (t : Fin cfg0.N) (y : S1024x128.Idx) (j : S32768x128.Idx)
    (h0 : (j 0 : ℕ) = t.val / 8 * 1024 + (y 0 : ℕ)) (h1 : (j 1 : ℕ) = y 1) :
    k0_pay1 (k0_pay6 (iblk m c 0 t) (iblk m c 1 t) (iblk m c 3 t)) (iblk m c 5 t) y = IK (proj m c) (m ((c : Thread nD τ).loc main_arg4)) j := by
  idx_vars y
  idx_vars j
  have hlt : (j0 : ℕ) < 32768 := j0.isLt
  have h0' : (j0 : ℕ) = t.val / 8 * 1024 + (y0 : ℕ) := h0
  obtain rfl : j1 = y1 := Fin.ext h1
  rw [row_split j0]
  exact point8 m c t y0 j1 ⟨(j0 : ℕ) / 2048, by omega⟩ ⟨(j0 : ℕ) % 2048, by omega⟩ (by simp only; omega)
theorem at9 (c : Dev nD) (t : Fin cfg0.N) (y : S1024x128.Idx) (j : S32768x128.Idx)
    (h0 : (j 0 : ℕ) = t.val / 8 * 1024 + (y 0 : ℕ)) (h1 : (j 1 : ℕ) = y 1) :
    k0_pay2 (k0_pay6 (iblk m c 0 t) (iblk m c 1 t) (iblk m c 3 t)) y = IW (proj m c) j := by
  idx_vars y
  idx_vars j
  have hlt : (j0 : ℕ) < 32768 := j0.isLt
  have h0' : (j0 : ℕ) = t.val / 8 * 1024 + (y0 : ℕ) := h0
  obtain rfl : j1 = y1 := Fin.ext h1
  rw [row_split j0]
  exact point9 m c t y0 j1 ⟨(j0 : ℕ) / 2048, by omega⟩ ⟨(j0 : ℕ) % 2048, by omega⟩ (by simp only; omega)

/-- The four output arrays after the run are the reference's. -/
theorem final6 (c : Dev nD) : (dats m 0 c).arrAt 6 (cfgs 0).N = MAIN (proj m c) := by
  refine (dats m 0 c).arrAt_eq_of_covers 6 _ (by decide +kernel) fun t _ y => ?_
  blk_simp
  rw [after0_6]
  refine at6 m c t y _ ?_ ?_ <;> blk_simp [idx t]
theorem final7 (c : Dev nD) : (dats m 0 c).arrAt 7 (cfgs 0).N = CKV (proj m c) (m ((c : Thread nD τ).loc main_arg3)) := by
  refine (dats m 0 c).arrAt_eq_of_covers 7 _ (by decide +kernel) fun t _ y => ?_
  blk_simp
  rw [after0_7]
  refine at7 m c t y _ ?_ ?_ <;> blk_simp [idx t]
theorem final8 (c : Dev nD) : (dats m 0 c).arrAt 8 (cfgs 0).N = IK (proj m c) (m ((c : Thread nD τ).loc main_arg4)) := by
  refine (dats m 0 c).arrAt_eq_of_covers 8 _ (by decide +kernel) fun t _ y => ?_
  blk_simp
  rw [after0_8]
  refine at8 m c t y _ ?_ ?_ <;> blk_simp [idx t]
theorem final9 (c : Dev nD) : (dats m 0 c).arrAt 9 (cfgs 0).N = IW (proj m c) := by
  refine (dats m 0 c).arrAt_eq_of_covers 9 _ (by decide +kernel) fun t _ y => ?_
  blk_simp
  rw [after0_9]
  refine at9 m c t y _ ?_ ?_ <;> blk_simp [idx t]

end Cert.Kernel2Ideal.InValue

namespace Cert.Reference2Ideal.InValue

open Cert.Reference2Ideal Cert.Reference2Ideal.Gen Idealize.ShloMosaic Idealize.ShloMosaic.TcCoe Idealize.SL.Sem

variable (m : (ℓ : Loc nD τ sig) → Buf (Elt Ideal) ℓ)

/-- The wide result of the reference's run is its composed term. -/
theorem res_wide (c : Dev nD) : Value.res_main_v62 m c
    = MAIN (PROJ (HN (m ((c : Thread nD τ).loc main_arg0)) (m ((c : Thread nD τ).loc main_arg1))) (m ((c : Thread nD τ).loc main_arg2))) := by
  unfold Value.res_main_v62 MAIN PROJ HN
  rfl

/-- The index keys of the reference's run are their composed term. -/
theorem res_ik (c : Dev nD) : Value.res_main_v65 m c
    = IK (PROJ (HN (m ((c : Thread nD τ).loc main_arg0)) (m ((c : Thread nD τ).loc main_arg1))) (m ((c : Thread nD τ).loc main_arg2)))
        (m ((c : Thread nD τ).loc main_arg4)) := by
  unfold Value.res_main_v65 IK PROJ HN
  rfl

end Cert.Reference2Ideal.InValue

set_option maxHeartbeats 4000000 in
/-- The input projection computes the reference's four results on every device. -/
theorem Cert.Kernel2Ideal.InValue.algebraic : Cert.algebraic_Kernel2Ideal_Reference2Ideal := by
  pair_intro
  · run_from Cert.Kernel2Ideal.InBody.run_main m g
  · run_from Cert.Reference2Ideal.Value.run m' g'
    · obtain ⟨h0, h1, h2, h3, h4⟩ := hagree c
      rw [Cert.Reference2Ideal.InValue.res_wide, h0, h1, h2]
      exact (Cert.Kernel2Ideal.InValue.final6 m c).symm
    · exact (Cert.Kernel2Ideal.InValue.final7 m c).symm
    · obtain ⟨h0, h1, h2, h3, h4⟩ := hagree c
      rw [Cert.Reference2Ideal.InValue.res_ik, h0, h1, h2, h4]
      exact (Cert.Kernel2Ideal.InValue.final8 m c).symm
    · exact (Cert.Kernel2Ideal.InValue.final9 m c).symm

end
-- ==== Proof.lean ====
/- The proof of the certificate's claims for the three calls: the programs' frames, the idealization's preservation, the
   algebraic claims. -/
module

public import proofs.«01_k».proof.Defs
public import proofs.«01_k».proof.Proof.AttRun
public import proofs.«01_k».proof.Proof.AttRunIdeal
public import proofs.«01_k».proof.Proof.AttValue
public import proofs.«01_k».proof.Proof.Gen.Pre_finite_inputs
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Out
public import proofs.«01_k».proof.Proof.InBody
public import proofs.«01_k».proof.Proof.InBodyIdeal
public import proofs.«01_k».proof.Proof.InValue
public import Idealize.ShloMosaic.Adequacy
public import Idealize.ShloMosaic.Init
public import Idealize.ShloMosaic.Lib.Claim

@[expose] public section

noncomputable section

namespace Cert.Proof

open Idealize.ShloMosaic Idealize.SL.Sem

/-- The reference of the output projection terminates, leaves its arguments unchanged and its counters at zero. -/
theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of the input projection terminates, leaves its arguments unchanged and its counters at zero. -/
theorem frame_ref2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The reference of the attention terminates, leaves its arguments unchanged and its counters at zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All the claims about the three calls. -/
theorem claim : Cert.Claim :=
  haveI := Cert.Pre_finite_inputs.Gen.facts
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_inputs.Gen.facts,
  fun m ρ _ => Cert.Kernel.Att.frame m ρ, fun m ρ _ => Cert.KernelIdeal.Att.frame m ρ,
  fun m ρ _ => Cert.KernelIdeal.Att.frame m ρ, frame_ref, fun m ρ _ => frame_ref m ρ trivial,
  fun m ρ _ => Cert.Kernel2.InBody.frame m ρ, fun m ρ _ => Cert.Kernel2Ideal.InBody.frame m ρ, frame_ref2,
  fun m ρ _ => Cert.Kernel3.Gen.frame m ρ, fun m ρ _ => Cert.Kernel3Ideal.Gen.frame m ρ, frame_ref3,
  trivial, Cert.KernelIdeal.AttValue.algebraic,
  trivial, Cert.Kernel2Ideal.InValue.algebraic, trivial, Cert.Kernel3Ideal.Out.algebraic⟩

end Cert.Proof

end
